-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x256 : Shape := ⟨3, ![16, 1024, 256]⟩
abbrev S16x512 : Shape := ⟨2, ![16, 512]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S1x256 : Shape := ⟨2, ![1, 256]⟩
abbrev S16x1x512 : Shape := ⟨3, ![16, 1, 512]⟩
abbrev S16384x32 : Shape := ⟨2, ![16384, 32]⟩
abbrev S1x1024x256 : Shape := ⟨3, ![1, 1024, 256]⟩
abbrev S1x1x512 : Shape := ⟨3, ![1, 1, 512]⟩
abbrev S1024x32 : Shape := ⟨2, ![1024, 32]⟩
abbrev S8x128 : Shape := ⟨2, ![8, 128]⟩
abbrev S1024x256 : Shape := ⟨2, ![1024, 256]⟩
abbrev S1x512 : Shape := ⟨2, ![1, 512]⟩
abbrev S256x1 : Shape := ⟨2, ![256, 1]⟩
abbrev S1024x1024 : Shape := ⟨2, ![1024, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩

abbrev nBuf : Space → Nat
  | .hbm => 16
  | .vmem => 14
  | .smem => 0
  | _ => 0

abbrev bufTy : (tb : Table) → Fin (tcTables nBuf tb) → BufTy
  | .hbm, ⟨0, _⟩ => ⟨S16x1024x256, .f32⟩
  | .hbm, ⟨1, _⟩ => ⟨S16x512, .f32⟩
  | .hbm, ⟨2, _⟩ => ⟨S256x768, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256x512, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S16x1x512, .f32⟩
  | .hbm, ⟨15, _⟩ => ⟨S16384x32, .f32⟩
  | .local _ .vmem, ⟨0, _⟩ => ⟨S1x1024x256, .f32⟩
  | .local _ .vmem, ⟨1, _⟩ => ⟨S1x1024x256, .f32⟩
  | .local _ .vmem, ⟨2, _⟩ => ⟨S1x1x512, .f32⟩
  | .local _ .vmem, ⟨3, _⟩ => ⟨S1x1x512, .f32⟩
  | .local _ .vmem, ⟨4, _⟩ => ⟨S256x256, .f32⟩
  | .local _ .vmem, ⟨5, _⟩ => ⟨S256x512, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x256, .f32⟩
  | .local _ .vmem, ⟨11, _⟩ => ⟨S1024x32, .f32⟩
  | .local _ .vmem, ⟨12, _⟩ => ⟨S1024x32, .f32⟩
  | .local _ .vmem, ⟨13, _⟩ => ⟨S8x128, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x1024x256 : Shape := ⟨3, ![16, 1024, 256]⟩
abbrev S16x512 : Shape := ⟨2, ![16, 512]⟩
abbrev S256x768 : Shape := ⟨2, ![256, 768]⟩
abbrev S256 : Shape := ⟨1, ![256]⟩
abbrev S256x256 : Shape := ⟨2, ![256, 256]⟩
abbrev S16x1x512 : Shape := ⟨3, ![16, 1, 512]⟩
abbrev S16x1024x512 : Shape := ⟨3, ![16, 1024, 512]⟩
abbrev S16x1024x768 : Shape := ⟨3, ![16, 1024, 768]⟩
abbrev S256x1 : Shape := ⟨2, ![256, 1]⟩
abbrev S_ : Shape := ⟨0, ![]⟩
abbrev S768x256 : Shape := ⟨2, ![768, 256]⟩
abbrev S1x1x256 : Shape := ⟨3, ![1, 1, 256]⟩
abbrev S16x256x1024 : Shape := ⟨3, ![16, 256, 1024]⟩
abbrev S16x1024x1024 : Shape := ⟨3, ![16, 1024, 1024]⟩
abbrev S16x1024 : Shape := ⟨2, ![16, 1024]⟩
abbrev S16x1024x1 : Shape := ⟨3, ![16, 1024, 1]⟩
abbrev S16x1024x32 : Shape := ⟨3, ![16, 1024, 32]⟩
abbrev S16384x32 : Shape := ⟨2, ![16384, 32]⟩

abbrev nBuf : Space → Nat
  | .hbm => 71
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S16x512, .f32⟩
  | .hbm, ⟨2, _⟩ => ⟨S256x768, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S16x1x512, .f32⟩
  | .hbm, ⟨9, _⟩ => ⟨S16x1024x512, .f32⟩
  | .hbm, ⟨10, _⟩ => ⟨S16x1024x768, .f32⟩
  | .hbm, ⟨11, _⟩ => ⟨S256x1, .f32⟩
  | .hbm, ⟨12, _⟩ => ⟨S256x768, .f32⟩
  | .hbm, ⟨13, _⟩ => ⟨S256x768, .f32⟩
  | .hbm, ⟨14, _⟩ => ⟨S256x768, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S256x1, .f32⟩
  | .hbm, ⟨19, _⟩ => ⟨S256x768, .f32⟩
  | .hbm, ⟨20, _⟩ => ⟨S256x768, .f32⟩
  | .hbm, ⟨21, _⟩ => ⟨S768x256, .f32⟩
  | .hbm, ⟨22, _⟩ => ⟨S16x1024x256, .f32⟩
  | .hbm, ⟨23, _⟩ => ⟨S1x1x256, .f32⟩
  | .hbm, ⟨24, _⟩ => ⟨S16x1024x256, .f32⟩
  | .hbm, ⟨25, _⟩ => ⟨S16x1024x256, .f32⟩
  | .hbm, ⟨26, _⟩ => ⟨S_, .f32⟩
  | .hbm, ⟨27, _⟩ => ⟨S16x1024x256, .f32⟩
  | .hbm, ⟨28, _⟩ => ⟨S16x1024x256, .f32⟩
  | .hbm, ⟨29, _⟩ => ⟨S256x1, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S16x1024x256, .f32⟩
  | .hbm, ⟨41, _⟩ => ⟨S1x1x256, .f32⟩
  | .hbm, ⟨42, _⟩ => ⟨S16x1024x256, .f32⟩
  | .hbm, ⟨43, _⟩ => ⟨S16x1024x256, .f32⟩
  | .hbm, ⟨44, _⟩ => ⟨S_, .f32⟩
  | .hbm, ⟨45, _⟩ => ⟨S16x1024x256, .f32⟩
  | .hbm, ⟨46, _⟩ => ⟨S16x1024x256, .f32⟩
  | .hbm, ⟨47, _⟩ => ⟨S16x256x1024, .f32⟩
  | .hbm, ⟨48, _⟩ => ⟨S16x1024x1024, .f32⟩
  | .hbm, ⟨49, _⟩ => ⟨S16x1024x1024, .f32⟩
  | .hbm, ⟨50, _⟩ => ⟨S16x1024x1024, .f32⟩
  | .hbm, ⟨51, _⟩ => ⟨S_, .f32⟩
  | .hbm, ⟨52, _⟩ => ⟨S16x1024x1024, .f32⟩
  | .hbm, ⟨53, _⟩ => ⟨S16x1024x1024, .f32⟩
  | .hbm, ⟨54, _⟩ => ⟨S_, .f32⟩
  | .hbm, ⟨55, _⟩ => ⟨S16x1024, .f32⟩
  | .hbm, ⟨56, _⟩ => ⟨S_, .f32⟩
  | .hbm, ⟨57, _⟩ => ⟨S16x1024, .f32⟩
  | .hbm, ⟨58, _⟩ => ⟨S16x1024, .f32⟩
  | .hbm, ⟨59, _⟩ => ⟨S16x1024x1, .f32⟩
  | .hbm, ⟨60, _⟩ => ⟨S16x1024x1024, .f32⟩
  | .hbm, ⟨61, _⟩ => ⟨S16x1024x1024, .f32⟩
  | .hbm, ⟨62, _⟩ => ⟨S16x1024x1024, .f32⟩
  | .hbm, ⟨63, _⟩ => ⟨S_, .f32⟩
  | .hbm, ⟨64, _⟩ => ⟨S16x1024, .f32⟩
  | .hbm, ⟨65, _⟩ => ⟨S16x1024x1, .f32⟩
  | .hbm, ⟨66, _⟩ => ⟨S16x1024x1024, .f32⟩
  | .hbm, ⟨67, _⟩ => ⟨S16x1024x1024, .f32⟩
  | .hbm, ⟨68, _⟩ => ⟨S16x1024x32, .f32⟩
  | .hbm, ⟨69, _⟩ => ⟨S16x1024x32, .i32⟩
  | .hbm, ⟨70, _⟩ => ⟨S16384x32, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_cst : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_call2_v2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call3_cst : Ref sig .tc := ⟨.hbm, 44, rfl⟩
abbrev main_call3_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_v32 : Ref sig .tc := ⟨.hbm, 53, rfl⟩
abbrev main_cst_0 : Ref sig .tc := ⟨.hbm, 54, rfl⟩
abbrev main_v33 : Ref sig .tc := ⟨.hbm, 55, rfl⟩
abbrev main_cst_1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_values : Ref sig .tc := ⟨.hbm, 68, rfl⟩
abbrev main_indices : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== Proof.Network.lean ====
/-
  Comparator networks on 32 wires, as lists of pairs of wires, over any carrier with a maximum and a minimum: the five
  merging rounds of Batcher's odd-even merge sort and the bitonic merge. A comparator puts the greater value on its first wire.
-/
module

public import Mathlib.Order.Basic
public import Mathlib.Data.Nat.Bitwise
public import Mathlib.Algebra.BigOperators.Intervals

@[expose] public section

namespace Cert.TopK

variable {α : Type}

/-- The comparators of a list, in order, on the wires `s`: each puts the greater value on the first wire of its pair and
    the smaller on the second. -/
def runNet (mx mn : α → α → α) (cs : List (Nat × Nat)) : (Nat → α) → Nat → α :=
  List.rec (motive := fun _ => (Nat → α) → Nat → α) (fun s => s)
    (fun c _ rest s => rest fun k =>
      Bool.rec (Bool.rec (s k) (mn (s c.1) (s c.2)) (Nat.beq k c.2)) (mx (s c.1) (s c.2)) (Nat.beq k c.1)) cs

/-- Batcher's round that merges neighbouring sorted runs of length 1. -/
def merge1 : List (Nat × Nat) :=
  [(0, 1), (2, 3), (4, 5), (6, 7), (8, 9), (10, 11), (12, 13), (14, 15), (16, 17), (18, 19), (20, 21), (22, 23),
    (24, 25), (26, 27), (28, 29), (30, 31)]

/-- Batcher's round that merges neighbouring sorted runs of length 2. -/
def merge2 : List (Nat × Nat) :=
  [(0, 2), (1, 3), (4, 6), (5, 7), (8, 10), (9, 11), (12, 14), (13, 15), (16, 18), (17, 19), (20, 22), (21, 23),
    (24, 26), (25, 27), (28, 30), (29, 31), (1, 2), (5, 6), (9, 10), (13, 14), (17, 18), (21, 22), (25, 26), (29, 30)]

/-- Batcher's round that merges neighbouring sorted runs of length 4. -/
def merge4 : List (Nat × Nat) :=
  [(0, 4), (1, 5), (2, 6), (3, 7), (8, 12), (9, 13), (10, 14), (11, 15), (16, 20), (17, 21), (18, 22), (19, 23),
    (24, 28), (25, 29), (26, 30), (27, 31), (2, 4), (3, 5), (10, 12), (11, 13), (18, 20), (19, 21), (26, 28),
    (27, 29), (1, 2), (3, 4), (5, 6), (9, 10), (11, 12), (13, 14), (17, 18), (19, 20), (21, 22), (25, 26), (27, 28),
    (29, 30)]

/-- Batcher's round that merges neighbouring sorted runs of length 8. -/
def merge8 : List (Nat × Nat) :=
  [(0, 8), (1, 9), (2, 10), (3, 11), (4, 12), (5, 13), (6, 14), (7, 15), (16, 24), (17, 25), (18, 26), (19, 27),
    (20, 28), (21, 29), (22, 30), (23, 31), (4, 8), (5, 9), (6, 10), (7, 11), (20, 24), (21, 25), (22, 26), (23, 27),
    (2, 4), (3, 5), (6, 8), (7, 9), (10, 12), (11, 13), (18, 20), (19, 21), (22, 24), (23, 25), (26, 28), (27, 29),
    (1, 2), (3, 4), (5, 6), (7, 8), (9, 10), (11, 12), (13, 14), (17, 18), (19, 20), (21, 22), (23, 24), (25, 26),
    (27, 28), (29, 30)]

/-- Batcher's round that merges neighbouring sorted runs of length 16. -/
def merge16 : List (Nat × Nat) :=
  [(0, 16), (1, 17), (2, 18), (3, 19), (4, 20), (5, 21), (6, 22), (7, 23), (8, 24), (9, 25), (10, 26), (11, 27),
    (12, 28), (13, 29), (14, 30), (15, 31), (8, 16), (9, 17), (10, 18), (11, 19), (12, 20), (13, 21), (14, 22),
    (15, 23), (4, 8), (5, 9), (6, 10), (7, 11), (12, 16), (13, 17), (14, 18), (15, 19), (20, 24), (21, 25), (22, 26),
    (23, 27), (2, 4), (3, 5), (6, 8), (7, 9), (10, 12), (11, 13), (14, 16), (15, 17), (18, 20), (19, 21), (22, 24),
    (23, 25), (26, 28), (27, 29), (1, 2), (3, 4), (5, 6), (7, 8), (9, 10), (11, 12), (13, 14), (15, 16), (17, 18),
    (19, 20), (21, 22), (23, 24), (25, 26), (27, 28), (29, 30)]

/-- The bitonic merge of 32 wires. -/
def bitonic : List (Nat × Nat) :=
  [(0, 16), (1, 17), (2, 18), (3, 19), (4, 20), (5, 21), (6, 22), (7, 23), (8, 24), (9, 25), (10, 26), (11, 27),
    (12, 28), (13, 29), (14, 30), (15, 31), (0, 8), (1, 9), (2, 10), (3, 11), (4, 12), (5, 13), (6, 14), (7, 15),
    (16, 24), (17, 25), (18, 26), (19, 27), (20, 28), (21, 29), (22, 30), (23, 31), (0, 4), (1, 5), (2, 6), (3, 7),
    (8, 12), (9, 13), (10, 14), (11, 15), (16, 20), (17, 21), (18, 22), (19, 23), (24, 28), (25, 29), (26, 30),
    (27, 31), (0, 2), (1, 3), (4, 6), (5, 7), (8, 10), (9, 11), (12, 14), (13, 15), (16, 18), (17, 19), (20, 22),
    (21, 23), (24, 26), (25, 27), (28, 30), (29, 31), (0, 1), (2, 3), (4, 5), (6, 7), (8, 9), (10, 11), (12, 13),
    (14, 15), (16, 17), (18, 19), (20, 21), (22, 23), (24, 25), (26, 27), (28, 29), (30, 31)]

end Cert.TopK
-- ==== Proof.BlockTerm.lean ====
/-
  What the kernel body stores at one grid point, written as one short term: the logits of the block, the 32 row slabs of the
  logits through the sorting network, five halvings with a bitonic merge each, and the normalised exponentials of the result.
-/
module

public import proofs.«01_k».proof.Proof.Gen.KernelIdeal.Frame
public import proofs.«01_k».proof.Proof.Network
public import Idealize.ShloMosaic.Lib.Pipeline.Value

@[expose] public section

set_option maxRecDepth 16384

noncomputable section

namespace Cert.TopK

open Cert.KernelIdeal Cert.KernelIdeal.Gen Idealize.ShloMosaic Idealize.ShloMosaic.TcCoe

variable {F : FTy → Type} [FloatOps F]

theorem slab_fits (a : Nat) : S1024x1024.Slices ![32 * (a % 32), 0] S32x1024 := by
  refine ⟨rfl, ?_⟩
  intro k
  have : a % 32 < 32 := Nat.mod_lt _ (by decide)
  fin_cases k
  · show 32 * (a % 32) + 32 ≤ 1024
    omega
  · show 0 + 1024 ≤ 1024
    omega

/-- Rows `32 a` to `32 a + 31`. -/
def slab (x : FVec F S1024x1024 .f32) (a : Nat) : FVec F S32x1024 .f32 :=
  extractStridedSlice S32x1024 ![32 * (a % 32), 0] x (slab_fits a)

/-- The shape of a slab of `h` rows. -/
abbrev slabShape (h : Nat) : Shape := ⟨2, ![h, 1024]⟩

theorem upper_fits {g h : Nat} (e : h + h ≤ g) : (slabShape g).Slices ![0, 0] (slabShape h) := by
  refine ⟨rfl, ?_⟩
  intro k
  fin_cases k
  · show 0 + h ≤ g
    omega
  · show 0 + 1024 ≤ 1024
    omega

theorem lower_fits {g h : Nat} (e : h + h ≤ g) : (slabShape g).Slices ![h, 0] (slabShape h) := by
  refine ⟨rfl, ?_⟩
  intro k
  fin_cases k
  · show h + h ≤ g
    omega
  · show 0 + 1024 ≤ 1024
    omega

/-- The upper half of each slab against the lower half of the mirrored slab. -/
def foldHalves (g h : Nat) (e : h + h ≤ g) (s : Nat → FVec F (slabShape g) .f32) (a : Nat) : FVec F (slabShape h) .f32 :=
  maximumf (extractStridedSlice (slabShape h) ![0, 0] (s a) (upper_fits e))
    (extractStridedSlice (slabShape h) ![h, 0] (s (31 - a)) (lower_fits e))

/-- A comparator network on slabs, element by element. -/
def slabNet {g : Nat} (cs : List (Nat × Nat)) : (Nat → FVec F (slabShape g) .f32) → Nat → FVec F (slabShape g) .f32 :=
  List.rec (motive := fun _ => (Nat → FVec F (slabShape g) .f32) → Nat → FVec F (slabShape g) .f32) (fun s => s)
    (fun c _ rest s => rest fun k =>
      Bool.rec (Bool.rec (s k) (minimumf (s c.1) (s c.2)) (Nat.beq k c.2)) (maximumf (s c.1) (s c.2)) (Nat.beq k c.1)) cs

theorem slabNet_eq {g : Nat} (cs : List (Nat × Nat)) (s : Nat → FVec F (slabShape g) .f32) :
    slabNet cs s = runNet maximumf minimumf cs s := rfl

/-- The slabs of the logits through the merge sort. -/
def sortedSlab (x : FVec F S1024x1024 .f32) : Nat → FVec F (slabShape 32) .f32 :=
  slabNet merge16 (slabNet merge8 (slabNet merge4 (slabNet merge2 (slabNet merge1 (slab x)))))

/-- One halving: the folded halves through the bitonic merge. -/
def halve (g h : Nat) (e : h + h ≤ g) (s : Nat → FVec F (slabShape g) .f32) : Nat → FVec F (slabShape h) .f32 :=
  slabNet bitonic (foldHalves g h e s)

/-- The 32 rows the network ends with: row `k` holds each column's entry of rank `k`. -/
def topRow (x : FVec F S1024x1024 .f32) : Nat → FVec F (slabShape 1) .f32 :=
  halve 2 1 (by decide) (halve 4 2 (by decide) (halve 8 4 (by decide) (halve 16 8 (by decide) (halve 32 16 (by decide)
    (sortedSlab x)))))

/-- The 32 rows as one block. -/
def topBlock (x : FVec F S1024x1024 .f32) : FVec F S32x1024 .f32 :=
  concatenate S32x1024 0 ((List.range 32).map fun k => (⟨S1x1024, topRow x k⟩ : (s : Shape) × FVec F s .f32))
    (by decide : Shape.Concatenates (List.replicate 32 S1x1024) S32x1024 0)

/-- The greatest entry of each column, as a row. -/
def colMax (x : FVec F S1024x1024 .f32) : FVec F S1x1024 .f32 :=
  extractStridedSlice S1x1024 ![0, 0] (topBlock x)

/-- The numerators: the exponentials of the block less the column maxima. -/
def numerators (x : FVec F S1024x1024 .f32) : FVec F S32x1024 .f32 :=
  exp (subf (topBlock x) (broadcastTo S32x1024 (colMax x) (by decide)))

/-- The denominators: the column sums of the exponentials of all logits less the column maxima. -/
def denominators (x : FVec F S1024x1024 .f32) : FVec F S1024 .f32 :=
  multiReduction .add [0] S1024 (exp (subf x (broadcastTo S1024x1024 (colMax x) (by decide)))) 0x00000000#32 (by decide) (.inl rfl) rfl

set_option maxHeartbeats 400000 in
theorem r_den (c : Dev nD) (arg1 : Memref sig .tc .vmem S1x1024x256 .f32) (harg1 : arg1.IsWhole) (arg2 : Memref sig .tc .vmem S1x1x512 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole)
    (x0 : Vec F S1x1024x256 .f32) (x1 : Vec F S1x1x512 .f32) (x2 : Vec F S256x256 .f32) (x3 : Vec F S256x512 .f32) (x4 : Vec F S1x256 .f32) (x5 : Vec F S1x256 .f32) (x6 : Vec F S256x256 .f32) (x7 : Vec F S1x256 .f32) (x8 : Vec F S1x256 .f32) :
    kernelRun0_A.sl.r_849 c arg1 harg1 arg2 harg2 arg3 harg3 arg4 harg4 arg5 harg5 arg6 harg6 arg7 harg7 arg8 harg8 arg9 harg9 x0 x1 x2 x3 x4 x5 x6 x7 x8 = denominators (kernelRun0_A.sl.r_5 c arg1 harg1 arg2 harg2 arg3 harg3 arg4 harg4 arg5 harg5 arg6 harg6 arg7 harg7 arg8 harg8 arg9 harg9 x0 x1 x2 x3 x4 x5 x6 x7 x8) := by
  exact rfl

set_option maxHeartbeats 400000 in
theorem r_num (c : Dev nD) (arg1 : Memref sig .tc .vmem S1x1024x256 .f32) (harg1 : arg1.IsWhole) (arg2 : Memref sig .tc .vmem S1x1x512 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole)
    (x0 : Vec F S1x1024x256 .f32) (x1 : Vec F S1x1x512 .f32) (x2 : Vec F S256x256 .f32) (x3 : Vec F S256x512 .f32) (x4 : Vec F S1x256 .f32) (x5 : Vec F S1x256 .f32) (x6 : Vec F S256x256 .f32) (x7 : Vec F S1x256 .f32) (x8 : Vec F S1x256 .f32) :
    kernelRun0_A.sl.r_850 c arg1 harg1 arg2 harg2 arg3 harg3 arg4 harg4 arg5 harg5 arg6 harg6 arg7 harg7 arg8 harg8 arg9 harg9 x0 x1 x2 x3 x4 x5 x6 x7 x8 = numerators (kernelRun0_A.sl.r_5 c arg1 harg1 arg2 harg2 arg3 harg3 arg4 harg4 arg5 harg5 arg6 harg6 arg7 harg7 arg8 harg8 arg9 harg9 x0 x1 x2 x3 x4 x5 x6 x7 x8) := by
  exact rfl

/-- A load of a whole buffer through the rectangle at offset zero reads what the buffer holds. -/
theorem load_whole {κ : Kind} {sp : Space} {s : Shape} {e : EltTy} (m : Memref sig κ sp s e) (h : m.IsWhole) (X : s.Idx → Elt F e)
    (off : Fin s.rank → Nat) (hz : off = fun _ => 0) (inb : ∀ a, off a + s.size a ≤ s.size a) :
    View.readAt (Elt F) m.view (Rect.unit off s.size inb).toLoadRect (h.unread X) = X :=
  (congrArg (fun Y => View.ld Y (Rect.unit off s.size inb)) (h.read_unread X)).trans (View.ld_unit_zero hz inb X)

theorem zero2 : (![0, 0] : Fin 2 → Nat) = fun _ => 0 := by decide

theorem zero3 : (![0, 0, 0] : Fin 3 → Nat) = fun _ => 0 := by decide

/-- The logits of one block, from the nine arrays the body loads. -/
abbrev logits (x0 : Vec F S1x1024x256 .f32) (x1 : Vec F S1x1x512 .f32) (x2 : Vec F S256x256 .f32) (x3 : Vec F S256x512 .f32)
    (x4 x5 : Vec F S1x256 .f32) (x6 : Vec F S256x256 .f32) (x7 x8 : Vec F S1x256 .f32) : FVec F S1024x1024 .f32 :=
  k0_pay11 (k0_pay2 x0) (k0_pay3 x1) (k0_pay8 x2 x3 x4) (k0_pay9 x2 x3 x4) (k0_pay10 x6 x7) x5 x8

theorem r_lt (c : Dev nD) (arg1 : Memref sig .tc .vmem S1x1024x256 .f32) (harg1 : arg1.IsWhole) (arg2 : Memref sig .tc .vmem S1x1x512 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole)
    (x0 : Vec F S1x1024x256 .f32) (x1 : Vec F S1x1x512 .f32) (x2 : Vec F S256x256 .f32) (x3 : Vec F S256x512 .f32) (x4 : Vec F S1x256 .f32) (x5 : Vec F S1x256 .f32) (x6 : Vec F S256x256 .f32) (x7 : Vec F S1x256 .f32) (x8 : Vec F S1x256 .f32) :
    kernelRun0_A.sl.r_5 c arg1 harg1 arg2 harg2 arg3 harg3 arg4 harg4 arg5 harg5 arg6 harg6 arg7 harg7 arg8 harg8 arg9 harg9 x0 x1 x2 x3 x4 x5 x6 x7 x8 = logits x0 x1 x2 x3 x4 x5 x6 x7 x8 := by
  sl_unfold_run_names
  rw [load_whole arg1 harg1 x0 _ zero3, load_whole arg2 harg2 x1 _ zero3, load_whole arg3 harg3 x2 _ zero2,
    load_whole arg4 harg4 x3 _ zero2, load_whole arg5 harg5 x4 _ zero2, load_whole arg6 harg6 x5 _ zero2,
    load_whole arg7 harg7 x6 _ zero2, load_whole arg8 harg8 x7 _ zero2, load_whole arg9 harg9 x8 _ zero2]

/-- What the body stores, from the logits. -/
def blockOut (x : FVec F S1024x1024 .f32) : FVec F S1024x32 .f32 := k0_pay1 (denominators x) (numerators x)

theorem out_eq (c : Dev nD) (arg1 : Memref sig .tc .vmem S1x1024x256 .f32) (harg1 : arg1.IsWhole) (arg2 : Memref sig .tc .vmem S1x1x512 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x256 .f32) (harg9 : arg9.IsWhole)
    (i : grid0.Coords) (arg10 : Memref sig .tc .vmem S1024x32 .f32) (harg10 : arg10.IsWhole) (arg11 : Memref sig .tc .vmem S8x128 .f32) (harg11 : arg11.IsWhole) (x0 : Vec F S1x1024x256 .f32) (x1 : Vec F S1x1x512 .f32) (x2 : Vec F S256x256 .f32) (x3 : Vec F S256x512 .f32) (x4 : Vec F S1x256 .f32) (x5 : Vec F S1x256 .f32) (x6 : Vec F S256x256 .f32) (x7 : Vec F S1x256 .f32) (x8 : Vec F S1x256 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 = blockOut (logits x0 x1 x2 x3 x4 x5 x6 x7 x8) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  refine (View.canon_unit_zero (Val := Elt F) (e := .f32) (S := S1024x32) zero2 _ (k0_pay1 (kernelRun0_A.sl.r_849 c arg1 harg1 arg2 harg2 arg3 harg3 arg4 harg4 arg5 harg5 arg6 harg6 arg7 harg7 arg8 harg8 arg9 harg9 x0 x1 x2 x3 x4 x5 x6 x7 x8) (kernelRun0_A.sl.r_850 c arg1 harg1 arg2 harg2 arg3 harg3 arg4 harg4 arg5 harg5 arg6 harg6 arg7 harg7 arg8 harg8 arg9 harg9 x0 x1 x2 x3 x4 x5 x6 x7 x8))).trans ?_
  rw [r_den, r_num, r_lt]
  rfl

end Cert.TopK

end
-- ==== Proof.Logit.lean ====
/-
  The logits as plain sums over the extended reals, and the kernel's logits read at an index.
-/
module

public import proofs.«01_k».proof.Proof.BlockTerm
public import Idealize.ShloMosaic.Lib.Pointwise

@[expose] public section

set_option maxRecDepth 16384

noncomputable section

namespace Cert.TopK

open Cert.KernelIdeal Cert.KernelIdeal.Gen Idealize.ShloMosaic

/-- The norm of row `e` of the first weight, whose columns come in two parts. -/
def rowNorm1 (va : Fin 256 → Fin 256 → EReal) (vb : Fin 256 → Fin 512 → EReal) (e : Fin 256) : EReal :=
  Ideal.sqrt (∑ k, va e k * va e k + ∑ k, vb e k * vb e k)

/-- The hidden feature `e` of node features `x`. -/
def hidden (x : Fin 256 → EReal) (cond : Fin 512 → EReal) (va : Fin 256 → Fin 256 → EReal) (vb : Fin 256 → Fin 512 → EReal)
    (g1 b1 : Fin 256 → EReal) (e : Fin 256) : EReal :=
  max (∑ k, x k * Ideal.div (g1 e * va e k) (rowNorm1 va vb e)
    + ∑ k, cond k * Ideal.div (g1 e * vb e k) (rowNorm1 va vb e) + b1 e) 0

/-- The joint feature `e` of hidden features `h`. -/
def joint (h : Fin 256 → EReal) (v2 : Fin 256 → Fin 256 → EReal) (g2 b2 : Fin 256 → EReal) (e : Fin 256) : EReal :=
  max (∑ k, h k * Ideal.div (g2 e * v2 e k) (Ideal.sqrt (∑ l, v2 e l * v2 e l)) + b2 e) 0

/-- The logit of two nodes, from their joint features. -/
def logit (p q : Fin 256 → EReal) : EReal := ∑ k, p k * q k

theorem logit_comm (p q : Fin 256 → EReal) : logit p q = logit q p :=
  Finset.sum_congr rfl fun _ _ => mul_comm _ _

theorem pay8_apply (x2 : Vec Ideal S256x256 .f32) (x3 : Vec Ideal S256x512 .f32) (x4 : Vec Ideal S1x256 .f32) (e k : Fin 256) :
    k0_pay8 x2 x3 x4 (ix2 e k) = Ideal.div (x4 (ix2 0 e) * x2 (ix2 e k)) (rowNorm1 (fun e k => x2 (ix2 e k)) (fun e k => x3 (ix2 e k)) e) := by
  pointwise [k0_pay8, k0_pay7, k0_pay6, k0_pay5, k0_pay4, rowNorm1]

theorem pay9_apply (x2 : Vec Ideal S256x256 .f32) (x3 : Vec Ideal S256x512 .f32) (x4 : Vec Ideal S1x256 .f32) (e : Fin 256)
    (k : Fin 512) : k0_pay9 x2 x3 x4 (ix2 e k)
      = Ideal.div (x4 (ix2 0 e) * x3 (ix2 e k)) (rowNorm1 (fun e k => x2 (ix2 e k)) (fun e k => x3 (ix2 e k)) e) := by
  pointwise [k0_pay9, k0_pay7, k0_pay6, k0_pay5, k0_pay4, rowNorm1]

theorem pay10_apply (x6 : Vec Ideal S256x256 .f32) (x7 : Vec Ideal S1x256 .f32) (e k : Fin 256) :
    k0_pay10 x6 x7 (ix2 e k)
      = Ideal.div (x7 (ix2 0 e) * x6 (ix2 e k)) (Ideal.sqrt (∑ l : Fin 256, x6 (ix2 e l) * x6 (ix2 e l))) := by
  pointwise [k0_pay10]

theorem pay11_apply (v1 : FVec Ideal S1024x256 .f32) (v3 : FVec Ideal S1x512 .f32) (v24 : FVec Ideal S256x256 .f32)
    (v30 : FVec Ideal S256x512 .f32) (v39 : FVec Ideal S256x256 .f32) (v48 v57 : Vec Ideal S1x256 .f32) (i j : Fin 1024) :
    k0_pay11 v1 v3 v24 v30 v39 v48 v57 (ix2 i j)
      = ∑ k : Fin 256,
        max (∑ l : Fin 256, max (∑ n : Fin 256, v1 (ix2 i n) * v24 (ix2 l n) + ∑ n : Fin 512, v3 (ix2 0 n) * v30 (ix2 l n)
          + v48 (ix2 0 l)) 0 * v39 (ix2 k l) + v57 (ix2 0 k)) 0 *
        max (∑ l : Fin 256, max (∑ n : Fin 256, v1 (ix2 j n) * v24 (ix2 l n) + ∑ n : Fin 512, v3 (ix2 0 n) * v30 (ix2 l n)
          + v48 (ix2 0 l)) 0 * v39 (ix2 k l) + v57 (ix2 0 k)) 0 := by
  pointwise [k0_pay11]

/-- The kernel's logits are the plain sums. -/
theorem logits_apply (x0 : Vec Ideal S1x1024x256 .f32) (x1 : Vec Ideal S1x1x512 .f32) (x2 : Vec Ideal S256x256 .f32)
    (x3 : Vec Ideal S256x512 .f32) (x4 x5 : Vec Ideal S1x256 .f32) (x6 : Vec Ideal S256x256 .f32) (x7 x8 : Vec Ideal S1x256 .f32)
    (i j : Fin 1024) :
    logits x0 x1 x2 x3 x4 x5 x6 x7 x8 (ix2 i j)
      = logit
        (joint (hidden (fun k => x0 (ix3 0 i k)) (fun k => x1 (ix3 0 0 k)) (fun e k => x2 (ix2 e k)) (fun e k => x3 (ix2 e k))
          (fun e => x4 (ix2 0 e)) (fun e => x5 (ix2 0 e))) (fun e k => x6 (ix2 e k)) (fun e => x7 (ix2 0 e)) (fun e => x8 (ix2 0 e)))
        (joint (hidden (fun k => x0 (ix3 0 j k)) (fun k => x1 (ix3 0 0 k)) (fun e k => x2 (ix2 e k)) (fun e k => x3 (ix2 e k))
          (fun e => x4 (ix2 0 e)) (fun e => x5 (ix2 0 e))) (fun e k => x6 (ix2 e k)) (fun e => x7 (ix2 0 e)) (fun e => x8 (ix2 0 e))) := by
  have h2 : ∀ (i : Fin 1024) (k : Fin 256), k0_pay2 x0 (ix2 i k) = x0 (ix3 0 i k) := by
    intro i k
    pointwise [k0_pay2]
  have h3 : ∀ k : Fin 512, k0_pay3 x1 (ix2 0 k) = x1 (ix3 0 0 k) := by
    intro k
    pointwise [k0_pay3]
  unfold logits
  rw [pay11_apply]
  simp only [pay8_apply, pay9_apply, pay10_apply, h2, h3]
  rfl

end Cert.TopK

end
-- ==== Proof.Blocks.lean ====
/-
  The kernel's result array, element by element: row `1024 t + p` is row `p` of what grid point `t` writes.
-/
module

public import proofs.«01_k».proof.Proof.Gen.KernelIdeal.Value
public import proofs.«01_k».proof.Proof.BlockTerm
public import proofs.«01_k».proof.Proof.Logit
public import Idealize.ShloMosaic.Lib.StableHlo.ReadAt

@[expose] public section

set_option maxRecDepth 16384

noncomputable section

namespace Cert.TopK

open Cert.KernelIdeal Cert.KernelIdeal.Gen Idealize.ShloMosaic Idealize.ShloMosaic.TcCoe

variable (m : (ℓ : Loc nD τ sig) → Buf (Elt Ideal) ℓ)

/-- The buffer `b` at launch. -/
abbrev launched (c : Dev nD) (b : Ref sig .tc) : Buf (Elt Ideal) ((c : Thread nD τ).loc b) := m ((c : Thread nD τ).loc b)

theorem v0_apply (c : Dev nD) (e k : Fin 256) : V m c main_v0 (ix2 e k) = launched m c main_arg2 (ix2 e (Fin.castAdd 512 k)) := by
  unfold V
  after_reads_at
  rfl

theorem v1_apply (c : Dev nD) (e : Fin 256) (k : Fin 512) : V m c main_v1 (ix2 e k) = launched m c main_arg2 (ix2 e (Fin.natAdd 256 k)) := by
  unfold V
  after_reads_at
  rfl

theorem v2_apply (c : Dev nD) (e : Fin 256) : V m c main_v2 (ix2 0 e) = launched m c main_arg3 (ix1 e) := by
  unfold V
  after_reads_at

theorem v3_apply (c : Dev nD) (e : Fin 256) : V m c main_v3 (ix2 0 e) = launched m c main_arg4 (ix1 e) := by
  unfold V
  after_reads_at

theorem v4_apply (c : Dev nD) (e : Fin 256) : V m c main_v4 (ix2 0 e) = launched m c main_arg6 (ix1 e) := by
  unfold V
  after_reads_at

theorem v5_apply (c : Dev nD) (e : Fin 256) : V m c main_v5 (ix2 0 e) = launched m c main_arg7 (ix1 e) := by
  unfold V
  after_reads_at

theorem v6_apply (c : Dev nD) (t : Fin 16) (k : Fin 512) : V m c main_v6 (ix3 t 0 k) = launched m c main_arg1 (ix2 t k) := by
  unfold V
  after_reads_at

/-! ## The blocks of the windows -/

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)

theorem index1 : ∀ t : Fin cfg0.N, win0_1.index t (0 : Fin 3) = t.val ∧ win0_1.index t (1 : Fin 3) = 0 ∧ win0_1.index t (2 : Fin 3) = 0 :=
  (by decide +kernel : ∀ t : Fin grid0.N, _)

theorem index2 : ∀ t : Fin cfg0.N, win0_2.index t (0 : Fin 2) = 0 ∧ win0_2.index t (1 : Fin 2) = 0 :=
  (by decide +kernel : ∀ t : Fin grid0.N, _)

theorem index3 : ∀ t : Fin cfg0.N, win0_3.index t (0 : Fin 2) = 0 ∧ win0_3.index t (1 : Fin 2) = 0 :=
  (by decide +kernel : ∀ t : Fin grid0.N, _)

theorem index4 : ∀ t : Fin cfg0.N, win0_4.index t (0 : Fin 2) = 0 ∧ win0_4.index t (1 : Fin 2) = 0 :=
  (by decide +kernel : ∀ t : Fin grid0.N, _)

theorem index5 : ∀ t : Fin cfg0.N, win0_5.index t (0 : Fin 2) = 0 ∧ win0_5.index t (1 : Fin 2) = 0 :=
  (by decide +kernel : ∀ t : Fin grid0.N, _)

theorem index6 : ∀ t : Fin cfg0.N, win0_6.index t (0 : Fin 2) = 0 ∧ win0_6.index t (1 : Fin 2) = 0 :=
  (by decide +kernel : ∀ t : Fin grid0.N, _)

theorem index7 : ∀ t : Fin cfg0.N, win0_7.index t (0 : Fin 2) = 0 ∧ win0_7.index t (1 : Fin 2) = 0 :=
  (by decide +kernel : ∀ t : Fin grid0.N, _)

theorem index8 : ∀ t : Fin cfg0.N, win0_8.index t (0 : Fin 2) = 0 ∧ win0_8.index t (1 : Fin 2) = 0 :=
  (by decide +kernel : ∀ t : Fin grid0.N, _)

theorem index9 : ∀ t : Fin cfg0.N, win0_9.index t (0 : Fin 2) = t.val ∧ win0_9.index t (1 : Fin 2) = 0 :=
  (by decide +kernel : ∀ t : Fin grid0.N, _)

/-- Window 0's block at point `t` is batch `t` of the node features. -/
theorem block0 (c : Dev nD) (t : Fin cfg0.N) (b : Fin 16) (hb : b.val = t.val) (i : Fin 1024) (k : Fin 256) :
    iblk m c 0 t (ix3 0 i k) = launched m c main_arg0 (ix3 b i k) := by
  obtain ⟨e0, e1, e2⟩ := index0 t
  have e : ((cfg0.win 0).blk t).view.emb (ix3 0 i k) = ix3 b i k := by
    funext a; apply Fin.ext
    match a with
    | ⟨0, _⟩ => show win0_0.index t (0 : Fin 3) * 1 + 1 * 0 = b.val; omega
    | ⟨1, _⟩ => show win0_0.index t (1 : Fin 3) * 1024 + 1 * i.val = i.val; omega
    | ⟨2, _⟩ => show win0_0.index t (2 : Fin 3) * 256 + 1 * k.val = k.val; omega
  show V m c main_arg0 (((cfg0.win 0).blk t).view.emb (ix3 0 i k)) = _
  rw [e, V_main_arg0]

/-- Window 1's block at point `t` is row `t` of the condition. -/
theorem block1 (c : Dev nD) (t : Fin cfg0.N) (b : Fin 16) (hb : b.val = t.val) (k : Fin 512) :
    iblk m c 1 t (ix3 0 0 k) = launched m c main_arg1 (ix2 b k) := by
  obtain ⟨e0, e1, e2⟩ := index1 t
  have e : ((cfg0.win 1).blk t).view.emb (ix3 0 0 k) = ix3 b 0 k := by
    funext a; apply Fin.ext
    match a with
    | ⟨0, _⟩ => show win0_1.index t (0 : Fin 3) * 1 + 1 * 0 = b.val; omega
    | ⟨1, _⟩ => show win0_1.index t (1 : Fin 3) * 1 + 1 * 0 = 0; omega
    | ⟨2, _⟩ => show win0_1.index t (2 : Fin 3) * 512 + 1 * k.val = k.val; omega
  show V m c main_v6 (((cfg0.win 1).blk t).view.emb (ix3 0 0 k)) = _
  rw [e, v6_apply]

theorem block2 (c : Dev nD) (t : Fin cfg0.N) (e k : Fin 256) :
    iblk m c 2 t (ix2 e k) = launched m c main_arg2 (ix2 e (Fin.castAdd 512 k)) := by
  obtain ⟨e0, e1⟩ := index2 t
  have h : ((cfg0.win 2).blk t).view.emb (ix2 e k) = ix2 e k := by
    funext a; apply Fin.ext
    match a with
    | ⟨0, _⟩ => show win0_2.index t (0 : Fin 2) * 256 + 1 * e.val = e.val; omega
    | ⟨1, _⟩ => show win0_2.index t (1 : Fin 2) * 256 + 1 * k.val = k.val; omega
  show V m c main_v0 (((cfg0.win 2).blk t).view.emb (ix2 e k)) = _
  rw [h, v0_apply]

theorem block3 (c : Dev nD) (t : Fin cfg0.N) (e : Fin 256) (k : Fin 512) :
    iblk m c 3 t (ix2 e k) = launched m c main_arg2 (ix2 e (Fin.natAdd 256 k)) := by
  obtain ⟨e0, e1⟩ := index3 t
  have h : ((cfg0.win 3).blk t).view.emb (ix2 e k) = ix2 e k := by
    funext a; apply Fin.ext
    match a with
    | ⟨0, _⟩ => show win0_3.index t (0 : Fin 2) * 256 + 1 * e.val = e.val; omega
    | ⟨1, _⟩ => show win0_3.index t (1 : Fin 2) * 512 + 1 * k.val = k.val; omega
  show V m c main_v1 (((cfg0.win 3).blk t).view.emb (ix2 e k)) = _
  rw [h, v1_apply]

theorem block4 (c : Dev nD) (t : Fin cfg0.N) (e : Fin 256) : iblk m c 4 t (ix2 0 e) = launched m c main_arg3 (ix1 e) := by
  obtain ⟨e0, e1⟩ := index4 t
  have h : ((cfg0.win 4).blk t).view.emb (ix2 0 e) = ix2 0 e := by
    funext a; apply Fin.ext
    match a with
    | ⟨0, _⟩ => show win0_4.index t (0 : Fin 2) * 1 + 1 * 0 = 0; omega
    | ⟨1, _⟩ => show win0_4.index t (1 : Fin 2) * 256 + 1 * e.val = e.val; omega
  show V m c main_v2 (((cfg0.win 4).blk t).view.emb (ix2 0 e)) = _
  rw [h, v2_apply]

theorem block5 (c : Dev nD) (t : Fin cfg0.N) (e : Fin 256) : iblk m c 5 t (ix2 0 e) = launched m c main_arg4 (ix1 e) := by
  obtain ⟨e0, e1⟩ := index5 t
  have h : ((cfg0.win 5).blk t).view.emb (ix2 0 e) = ix2 0 e := by
    funext a; apply Fin.ext
    match a with
    | ⟨0, _⟩ => show win0_5.index t (0 : Fin 2) * 1 + 1 * 0 = 0; omega
    | ⟨1, _⟩ => show win0_5.index t (1 : Fin 2) * 256 + 1 * e.val = e.val; omega
  show V m c main_v3 (((cfg0.win 5).blk t).view.emb (ix2 0 e)) = _
  rw [h, v3_apply]

theorem block6 (c : Dev nD) (t : Fin cfg0.N) (e k : Fin 256) : iblk m c 6 t (ix2 e k) = launched m c main_arg5 (ix2 e k) := by
  obtain ⟨e0, e1⟩ := index6 t
  have h : ((cfg0.win 6).blk t).view.emb (ix2 e k) = ix2 e k := by
    funext a; apply Fin.ext
    match a with
    | ⟨0, _⟩ => show win0_6.index t (0 : Fin 2) * 256 + 1 * e.val = e.val; omega
    | ⟨1, _⟩ => show win0_6.index t (1 : Fin 2) * 256 + 1 * k.val = k.val; omega
  show V m c main_arg5 (((cfg0.win 6).blk t).view.emb (ix2 e k)) = _
  rw [h, V_main_arg5]

theorem block7 (c : Dev nD) (t : Fin cfg0.N) (e : Fin 256) : iblk m c 7 t (ix2 0 e) = launched m c main_arg6 (ix1 e) := by
  obtain ⟨e0, e1⟩ := index7 t
  have h : ((cfg0.win 7).blk t).view.emb (ix2 0 e) = ix2 0 e := by
    funext a; apply Fin.ext
    match a with
    | ⟨0, _⟩ => show win0_7.index t (0 : Fin 2) * 1 + 1 * 0 = 0; omega
    | ⟨1, _⟩ => show win0_7.index t (1 : Fin 2) * 256 + 1 * e.val = e.val; omega
  show V m c main_v4 (((cfg0.win 7).blk t).view.emb (ix2 0 e)) = _
  rw [h, v4_apply]

theorem block8 (c : Dev nD) (t : Fin cfg0.N) (e : Fin 256) : iblk m c 8 t (ix2 0 e) = launched m c main_arg7 (ix1 e) := by
  obtain ⟨e0, e1⟩ := index8 t
  have h : ((cfg0.win 8).blk t).view.emb (ix2 0 e) = ix2 0 e := by
    funext a; apply Fin.ext
    match a with
    | ⟨0, _⟩ => show win0_8.index t (0 : Fin 2) * 1 + 1 * 0 = 0; omega
    | ⟨1, _⟩ => show win0_8.index t (1 : Fin 2) * 256 + 1 * e.val = e.val; omega
  show V m c main_v5 (((cfg0.win 8).blk t).view.emb (ix2 0 e)) = _
  rw [h, v5_apply]

/-- The logits of grid point `t`. -/
def pointLogits (c : Dev nD) (t : Fin cfg0.N) : FVec Ideal S1024x1024 .f32 :=
  logits (iblk m c 0 t) (iblk m c 1 t) (iblk m c 2 t) (iblk m c 3 t) (iblk m c 4 t) (iblk m c 5 t) (iblk m c 6 t) (iblk m c 7 t)
    (iblk m c 8 t)

/-- The joint features of node `i` of batch `b`, from the arguments at launch. -/
def nodeJoint (c : Dev nD) (b : Fin 16) (i : Fin 1024) : Fin 256 → EReal :=
  joint (hidden (fun k => launched m c main_arg0 (ix3 b i k)) (fun k => launched m c main_arg1 (ix2 b k))
    (fun e k => launched m c main_arg2 (ix2 e (Fin.castAdd 512 k))) (fun e k => launched m c main_arg2 (ix2 e (Fin.natAdd 256 k)))
    (fun e => launched m c main_arg3 (ix1 e)) (fun e => launched m c main_arg4 (ix1 e)))
    (fun e k => launched m c main_arg5 (ix2 e k)) (fun e => launched m c main_arg6 (ix1 e)) (fun e => launched m c main_arg7 (ix1 e))

theorem pointLogits_apply (c : Dev nD) (t : Fin cfg0.N) (b : Fin 16) (hb : b.val = t.val) (i j : Fin 1024) :
    pointLogits m c t (ix2 i j) = logit (nodeJoint m c b i) (nodeJoint m c b j) := by
  unfold pointLogits nodeJoint
  rw [logits_apply]
  simp only [block0 m c t b hb, block1 m c t b hb, block2 m c t, block3 m c t, block4 m c t, block5 m c t, block6 m c t, block7 m c t,
    block8 m c t]

/-- Row `1024 t + p` of the result array is row `p` of the block that point `t` writes. -/
theorem result_apply (c : Dev nD) (t : Fin cfg0.N) (p : Fin 1024) (k : Fin 32) (r : Fin 16384) (hr : r.val = 1024 * t.val + p.val) :
    (dats m 0 c).arrAt 9 cfg0.N (ix2 r k) = blockOut (pointLogits m c t) (ix2 p k) := by
  obtain ⟨e0, e1⟩ := index9 t
  have e : ((cfg0.win 9).blk t).view.emb (ix2 p k) = ix2 r k := by
    funext a; apply Fin.ext
    match a with
    | ⟨0, _⟩ => show win0_9.index t (0 : Fin 2) * 1024 + 1 * p.val = r.val; omega
    | ⟨1, _⟩ => show win0_9.index t (1 : Fin 2) * 32 + 1 * k.val = k.val; omega
  have h := congrFun (Value.blocks9 m c t (flush0_9 t)) (ix2 p k)
  rw [Value.flushed9_A, out_eq] at h
  rw [← e]
  exact h

end Cert.TopK

end
-- ==== Proof.Rank.lean ====
/-
  Entries by rank. An element of a family has rank `k` when, at every threshold, it reaches the threshold exactly when more than
  `k` members do; that fixes it. A sorting arrangement has it, and a monotone map keeps it.
-/
module

public import Mathlib.Order.Basic
public import Mathlib.Data.Fintype.Card
public import Mathlib.Algebra.BigOperators.Fin
public import Mathlib.Order.Interval.Finset.Fin
public import Idealize.ShloMosaic.Lib.SortFacts

@[expose] public section

namespace Cert.TopK

open Idealize.ShloMosaic

variable {α : Type} [LinearOrder α] {n : Nat}

/-- How many members of a family reach a threshold. -/
def reach (f : Fin n → α) (t : α) : Nat := ∑ i, (decide (t ≤ f i)).toNat

/-- `v` is the member of rank `k`, counted from the greatest. -/
def HasRank (f : Fin n → α) (k : Nat) (v : α) : Prop := ∀ t, t ≤ v ↔ k < reach f t

theorem HasRank.unique {f : Fin n → α} {k : Nat} {v w : α} (hv : HasRank f k v) (hw : HasRank f k w) : v = w :=
  eq_of_forall_le_iff fun t => (hv t).trans (hw t).symm

theorem reach_perm (f : Fin n → α) (π : Equiv.Perm (Fin n)) (t : α) : reach (fun i => f (π i)) t = reach f t := by
  unfold reach
  exact Equiv.sum_comp π fun i => (decide (t ≤ f i)).toNat

theorem reach_eq_card (f : Fin n → α) (t : α) : reach f t = (Finset.univ.filter fun i => t ≤ f i).card := by
  unfold reach
  rw [Finset.card_filter]
  refine Finset.sum_congr rfl fun i _ => ?_
  by_cases h : t ≤ f i <;> simp [h]

/-- In a decreasing arrangement the member at place `k` has rank `k`. -/
theorem hasRank_of_antitone {f : Fin n → α} (hf : ∀ i j, i ≤ j → f j ≤ f i) (k : Fin n) : HasRank f k (f k) := by
  intro t
  rw [reach_eq_card]
  constructor
  · intro h
    calc (k : Nat) < k + 1 := Nat.lt_succ_self _
      _ = (Finset.Iic k).card := (Fin.card_Iic k).symm
      _ ≤ _ := Finset.card_le_card fun i hi => by
        rw [Finset.mem_filter]
        exact ⟨Finset.mem_univ _, h.trans (hf i k (Finset.mem_Iic.mp hi))⟩
  · intro h
    by_contra hlt
    have : (Finset.univ.filter fun i => t ≤ f i).card ≤ (Finset.Iio k).card := Finset.card_le_card fun i hi => by
      rw [Finset.mem_filter] at hi
      rw [Finset.mem_Iio]
      by_contra hik
      exact hlt (hi.2.trans (hf k i (not_lt.mp hik)))
    rw [Fin.card_Iio] at this
    omega

theorem HasRank.of_perm {f : Fin n → α} {k : Nat} {v : α} (π : Equiv.Perm (Fin n)) (h : HasRank (fun i => f (π i)) k v) :
    HasRank f k v := fun t => (h t).trans (by rw [reach_perm])

/-- The order a descending sort compares by. -/
def above (f : Fin n → α) (i j : Fin n) : Bool := decide (f j < f i)

theorem sortedFrom_antitone (f : Fin n → α) (i j : Fin n) (hij : i ≤ j) :
    f (sortedFrom (above f) j) ≤ f (sortedFrom (above f) i) := by
  rcases hij.lt_or_eq with h | rfl
  · have := sortedFrom_noInversion (above f) (above f)
      (fun a b h => decide_eq_false (lt_asymm (of_decide_eq_true h))) (fun _ _ h => h)
      (fun a b c h1 h2 => decide_eq_false (not_lt.mpr
        ((not_lt.mp (of_decide_eq_false h1)).trans (not_lt.mp (of_decide_eq_false h2))))) i j h
    exact not_lt.mp (of_decide_eq_false this)
  · exact le_rfl

/-- A descending sort puts the member of rank `k` at place `k`. -/
theorem hasRank_sortedFrom (f : Fin n → α) (k : Fin n) : HasRank f k (f (sortedFrom (above f) k)) :=
  HasRank.of_perm (Equiv.ofBijective _ ⟨sortedFrom_injective (above f), sortedFrom_surjective (above f)⟩)
    (hasRank_of_antitone (f := fun i => f (sortedFrom (above f) i)) (sortedFrom_antitone f) k)

/-- A monotone map carries the member of rank `k` to the member of rank `k`. -/
theorem HasRank.map {β : Type} [LinearOrder β] {f : Fin n → α} {k : Fin n} {v : α} (h : HasRank f k v) {φ : α → β}
    (hφ : Monotone φ) : HasRank (fun i => φ (f i)) k (φ v) := by
  rw [h.unique (hasRank_sortedFrom f k)]
  exact HasRank.of_perm (f := fun i => φ (f i))
    (Equiv.ofBijective _ ⟨sortedFrom_injective (above f), sortedFrom_surjective (above f)⟩)
    (hasRank_of_antitone (f := fun i => φ (f (sortedFrom (above f) i))) (fun i j hij => hφ (sortedFrom_antitone f i j hij)) k)

/-- The member of rank zero is the greatest. -/
theorem HasRank.zero {f : Fin n → α} {v : α} (h : HasRank f 0 v) (t : α) : t ≤ v ↔ ∃ i, t ≤ f i := by
  rw [h t, reach_eq_card, Finset.card_pos]
  constructor
  · rintro ⟨i, hi⟩
    exact ⟨i, (Finset.mem_filter.mp hi).2⟩
  · rintro ⟨i, hi⟩
    exact ⟨i, Finset.mem_filter.mpr ⟨Finset.mem_univ _, hi⟩⟩

/-- A sum over `a * b` places taken block by block. -/
theorem sum_blocks (f : Nat → Nat) (b a : Nat) :
    ∑ i ∈ Finset.range (b * a), f i = ∑ r ∈ Finset.range b, ∑ q ∈ Finset.range a, f (b * q + r) := by
  induction a with
  | zero => simp
  | succ a ih =>
    rw [Nat.mul_succ, Finset.sum_range_add, ih, ← Finset.sum_add_distrib]
    exact Finset.sum_congr rfl fun r _ => (Finset.sum_range_succ _ a).symm

end Cert.TopK

end
-- ==== Proof.RefTerm.lean ====
/-
  The reference's result in named stages, and each stage read at an index over the extended reals.
-/
module

public import proofs.«01_k».proof.Proof.Gen.ReferenceIdeal.Run
public import proofs.«01_k».proof.Proof.Rank
public import Idealize.ShloMosaic.Lib.Pointwise

@[expose] public section

set_option maxRecDepth 16384

noncomputable section

namespace Cert.TopK.Ref

open Cert.ReferenceIdeal Cert.ReferenceIdeal.Gen Idealize.ShloMosaic Idealize.ShloMosaic.TcCoe

variable {F : FTy → Type} [FloatOps F]

/-- The first weight, each row scaled to the length its gain gives. -/
def weight1 (v1 : FVec F S256x768 .f32) (g1 : FVec F S256 .f32) : FVec F S256x768 .f32 :=
  Host.divf (mulf (broadcastInDim S256x768 ![0, 1] bcast_S256x1_S256x768_0_1 (broadcastInDim S256x1 ![0] bcast_S256_S256x1_0 g1)) v1)
    (broadcastInDim S256x768 ![0, 1] bcast_S256x1_S256x768_0_1 (Host.sqrt (broadcastInDim S256x1 ![0] bcast_S256_S256x1_0
      (Host.reduceAdd (mulf v1 v1) (constant S_ .f32 0x00000000#32) reducesTo_S256x768_S256_d1 h_S_))))

/-- The second weight, likewise. -/
def weight2 (v2 : FVec F S256x256 .f32) (g2 : FVec F S256 .f32) : FVec F S256x256 .f32 :=
  Host.divf (mulf (broadcastInDim S256x256 ![0, 1] bcast_S256x1_S256x256_0_1 (broadcastInDim S256x1 ![0] bcast_S256_S256x1_0 g2)) v2)
    (broadcastInDim S256x256 ![0, 1] bcast_S256x1_S256x256_0_1 (Host.sqrt (broadcastInDim S256x1 ![0] bcast_S256_S256x1_0
      (Host.reduceAdd (mulf v2 v2) (constant S_ .f32 0x00000000#32) reducesTo_S256x256_S256_d1 h_S_))))

/-- The node features with the condition appended. -/
def features (nf : FVec F S16x1024x256 .f32) (cd : FVec F S16x512 .f32) : FVec F S16x1024x768 .f32 :=
  concatenate S16x1024x768 2 [⟨S16x1024x256, nf⟩, ⟨S16x1024x512, (broadcastInDim S16x1024x512 ![0, 1, 2] bcast_S16x1x512_S16x1024x512_0_1_2
    (broadcastInDim S16x1x512 ![0, 2] bcast_S16x512_S16x1x512_0_2 cd))⟩] concatenates_S16x1024x256_S16x1024x512_S16x1024x768_d2

/-- The hidden features. -/
def hidden (x : FVec F S16x1024x768 .f32) (w1 : FVec F S256x768 .f32) (b1 : FVec F S256 .f32) : FVec F S16x1024x256 .f32 :=
  maximumf (addf (Host.dotGeneral dot_S16x1024x768_S768x256_S16x1024x256_2_0_01_1_n_n none x
      (transpose S768x256 [1, 0] w1 transposes_S256x768_S768x256_1_0))
    (broadcastInDim S16x1024x256 ![0, 1, 2] bcast_S1x1x256_S16x1024x256_0_1_2 (broadcastInDim S1x1x256 ![2] bcast_S256_S1x1x256_2 b1)))
    (broadcastInDim S16x1024x256 ![] bcast_S_S16x1024x256 (constant S_ .f32 0x00000000#32))

/-- The joint features. -/
def joint (h : FVec F S16x1024x256 .f32) (w2 : FVec F S256x256 .f32) (b2 : FVec F S256 .f32) : FVec F S16x1024x256 .f32 :=
  maximumf (addf (Host.dotGeneral dot_S16x1024x256_S256x256_S16x1024x256_2_0_01_1_n_n none h
      (transpose S256x256 [1, 0] w2 transposes_S256x256_S256x256_1_0))
    (broadcastInDim S16x1024x256 ![0, 1, 2] bcast_S1x1x256_S16x1024x256_0_1_2 (broadcastInDim S1x1x256 ![2] bcast_S256_S1x1x256_2 b2)))
    (broadcastInDim S16x1024x256 ![] bcast_S_S16x1024x256 (constant S_ .f32 0x00000000#32))

/-- The products of all pairs of nodes. -/
def gram (j : FVec F S16x1024x256 .f32) : FVec F S16x1024x1024 .f32 :=
  Host.dotGeneral dot_S16x1024x256_S16x256x1024_S16x1024x1024_2_1_1_2_0_0 none j
    (transpose S16x256x1024 [0, 2, 1] j transposes_S16x1024x256_S16x256x1024_0_2_1)

/-- The mean of the products in both directions. -/
def mirrored (l : FVec F S16x1024x1024 .f32) : FVec F S16x1024x1024 .f32 :=
  mulf (broadcastInDim S16x1024x1024 ![] bcast_S_S16x1024x1024 (constant S_ .f32 0x3F000000#32))
    (addf l (transpose S16x1024x1024 [0, 2, 1] l transposes_S16x1024x1024_S16x1024x1024_0_2_1))

/-- The greatest entry of each row. -/
def rowMax (l : FVec F S16x1024x1024 .f32) : FVec F S16x1024 .f32 :=
  maximumf (broadcastInDim S16x1024 ![] bcast_S_S16x1024 (constant S_ .f32 0xFF800000#32))
    (Host.reduce FloatOps.maximumf l (constant S_ .f32 0xFF800000#32) reducesTo_S16x1024x1024_S16x1024_d2 h_S_)

/-- The exponentials of the entries less a bound of their row. -/
def exps (l : FVec F S16x1024x1024 .f32) (mx : FVec F S16x1024 .f32) : FVec F S16x1024x1024 .f32 :=
  Host.exp (subf l (broadcastInDim S16x1024x1024 ![0, 1, 2] bcast_S16x1024x1_S16x1024x1024_0_1_2
    (broadcastInDim S16x1024x1 ![0, 1] bcast_S16x1024_S16x1024x1_0_1 mx)))

/-- Each entry over its row's sum. -/
def normalised (e : FVec F S16x1024x1024 .f32) : FVec F S16x1024x1024 .f32 :=
  Host.divf e (broadcastInDim S16x1024x1024 ![0, 1, 2] bcast_S16x1024x1_S16x1024x1024_0_1_2
    (broadcastInDim S16x1024x1 ![0, 1] bcast_S16x1024_S16x1024x1_0_1
      (Host.reduceAdd e (constant S_ .f32 0x00000000#32) reducesTo_S16x1024x1024_S16x1024_d2 h_S_)))

/-- The greatest entries of each row, one row of the result per node. -/
def greatest (w : FVec F S16x1024x1024 .f32) : FVec F S16384x32 .f32 :=
  shapeCast _ ((Host.topK S16x1024x32 2 (FloatOps.cmpfTotal .gt) w sliceFits_S16x1024x1024_S16x1024x32).1) shapeCasts_S16x1024x32_S16384x32

/-- The edge weights of logits. -/
def softmax (l : FVec F S16x1024x1024 .f32) : FVec F S16x1024x1024 .f32 := normalised (exps l (rowMax l))

/-- The reference's result is its stages one after the other. -/
theorem res_eq (m : (ℓ : Loc nD τ sig) → Buf (Elt F) ℓ) (c : Dev nD) :
    Value.res_main_v44 m c = greatest (softmax (mirrored (gram (joint (hidden
      (features (m ((c.tc : Thread nD τ).loc main_arg0)) (m ((c.tc : Thread nD τ).loc main_arg1)))
      (weight1 (m ((c.tc : Thread nD τ).loc main_arg2)) (m ((c.tc : Thread nD τ).loc main_arg3))) (m ((c.tc : Thread nD τ).loc main_arg4)))
      (weight2 (m ((c.tc : Thread nD τ).loc main_arg5)) (m ((c.tc : Thread nD τ).loc main_arg6))) (m ((c.tc : Thread nD τ).loc main_arg7)))))) := by
  unfold Value.res_main_v44
  rfl

theorem weight1_apply (v1 : FVec Ideal S256x768 .f32) (g1 : FVec Ideal S256 .f32) (e : Fin 256) (k : Fin 768) :
    weight1 v1 g1 (ix2 e k) = Ideal.div (g1 (ix1 e) * v1 (ix2 e k)) (Ideal.sqrt (∑ l : Fin 768, v1 (ix2 e l) * v1 (ix2 e l))) := by
  pointwise [weight1]

theorem weight2_apply (v2 : FVec Ideal S256x256 .f32) (g2 : FVec Ideal S256 .f32) (e k : Fin 256) :
    weight2 v2 g2 (ix2 e k) = Ideal.div (g2 (ix1 e) * v2 (ix2 e k)) (Ideal.sqrt (∑ l : Fin 256, v2 (ix2 e l) * v2 (ix2 e l))) := by
  pointwise [weight2]

theorem hidden_apply (x : FVec Ideal S16x1024x768 .f32) (w1 : FVec Ideal S256x768 .f32) (b1 : FVec Ideal S256 .f32) (t : Fin 16)
    (i : Fin 1024) (e : Fin 256) :
    hidden x w1 b1 (ix3 t i e) = max (∑ k : Fin 768, x (ix3 t i k) * w1 (ix2 e k) + b1 (ix1 e)) 0 := by
  pointwise [hidden]

theorem joint_apply (h : FVec Ideal S16x1024x256 .f32) (w2 : FVec Ideal S256x256 .f32) (b2 : FVec Ideal S256 .f32) (t : Fin 16)
    (i : Fin 1024) (e : Fin 256) :
    joint h w2 b2 (ix3 t i e) = max (∑ k : Fin 256, h (ix3 t i k) * w2 (ix2 e k) + b2 (ix1 e)) 0 := by
  pointwise [joint]

theorem gram_apply (j : FVec Ideal S16x1024x256 .f32) (t : Fin 16) (p q : Fin 1024) :
    gram j (ix3 t p q) = ∑ k : Fin 256, j (ix3 t p k) * j (ix3 t q k) := by
  pointwise [gram]

theorem features_left (nf : FVec Ideal S16x1024x256 .f32) (cd : FVec Ideal S16x512 .f32) (t : Fin 16) (i : Fin 1024) (k : Fin 256) :
    features nf cd (ix3 t i (Fin.castAdd 512 k)) = nf (ix3 t i k) := by
  pointwise [features]
  exact dif_pos k.isLt

theorem features_right (nf : FVec Ideal S16x1024x256 .f32) (cd : FVec Ideal S16x512 .f32) (t : Fin 16) (i : Fin 1024) (k : Fin 512) :
    features nf cd (ix3 t i (Fin.natAdd 256 k)) = cd (ix2 t k) := by
  pointwise [features]
  rw [dif_neg (by rw [Fin.val_natAdd]; omega)]
  exact congrArg (fun n => cd (ix2 t n)) (Fin.ext (by show 256 + k.val - 256 = k.val; omega))

theorem mirrored_apply (l : FVec Ideal S16x1024x1024 .f32) (t : Fin 16) (p q : Fin 1024) :
    mirrored l (ix3 t p q) = Ideal.ofBits .f32 0x3F000000#32 * (l (ix3 t p q) + l (ix3 t q p)) := by
  pointwise [mirrored]

theorem softmax_apply (l : FVec Ideal S16x1024x1024 .f32) (t : Fin 16) (p q : Fin 1024) :
    softmax l (ix3 t p q) = Ideal.div (Ideal.exp (l (ix3 t p q) - rowMax l (ix2 t p)))
      (∑ r : Fin 1024, Ideal.exp (l (ix3 t p r) - rowMax l (ix2 t p))) := by
  pointwise [softmax, normalised, exps]

end Cert.TopK.Ref

end
-- ==== Proof.RefValue.lean ====
module

public import proofs.«01_k».proof.Proof.RefTerm
public import proofs.«01_k».proof.Proof.Rank
public import Idealize.ShloMosaic.Lib.Pointwise

@[expose] public section

set_option maxRecDepth 16384

noncomputable section

namespace Cert.TopK.Ref

open Cert.ReferenceIdeal Cert.ReferenceIdeal.Gen Idealize.ShloMosaic Idealize.ShloMosaic.TcCoe

theorem topK_fst {s t : Shape} {α : Type} (d : Nat) (hd : d < s.rank) (gt : α → α → BitVec 1) (x : s.Idx → α)
    (h : s.Slices (fun _ => 0) t) :
    (Host.topK t d gt x h).1 = extractStridedSlice t (fun _ => 0) (fun i => x (i.along ⟨d, hd⟩
      (sortedFrom (fun k k' => gt (x (i.along ⟨d, hd⟩ k)) (x (i.along ⟨d, hd⟩ k')) == 1#1) (i ⟨d, hd⟩)))) h := by
  unfold Host.topK Host.sort2
  simp only [dif_pos hd]

theorem along_last {a b n : Nat} (t : Fin a) (p : Fin b) (q k : Fin n) :
    (ix3 t p q : (⟨3, ![a, b, n]⟩ : Shape).Idx).along (2 : Fin 3) k = ix3 t p k := by
  unfold Shape.Idx.along
  funext d
  fin_cases d
  · rfl
  · rfl
  · rfl

theorem cmpGreater (x y : EReal) : (FloatOps.cmpfTotal (F := Ideal) (φ := .f32) .gt x y == 1#1) = decide (y < x) := by
  show (Ideal.cmp .ogt x y == 1#1) = _
  unfold Ideal.cmp
  by_cases h : y < x <;> simp [h]

theorem topK_apply (w : FVec Ideal S16x1024x1024 .f32) (t : Fin 16) (p : Fin 1024) (k : Fin 32) :
    (Host.topK S16x1024x32 2 (FloatOps.cmpfTotal .gt) w sliceFits_S16x1024x1024_S16x1024x32).1 (ix3 t p k)
      = w (ix3 t p (sortedFrom (above fun q : Fin 1024 => w (ix3 t p q)) ⟨k, k.isLt.trans (by decide)⟩)) := by
  rw [topK_fst (s := S16x1024x1024) 2 (by decide)]
  have e : ∀ f : S16x1024x1024.Idx → EReal, extractStridedSlice S16x1024x32 (fun _ => 0) f sliceFits_S16x1024x1024_S16x1024x32 (ix3 t p k)
      = f (ix3 t p ⟨k, k.isLt.trans (by decide)⟩) := by
    intro f
    pointwise
  rw [e]
  refine (congrArg w (along_last t p _ _)).trans ?_
  refine congrArg (fun B : Fin 1024 → Fin 1024 → Bool => w (ix3 t p (sortedFrom B ⟨k, k.isLt.trans (by decide)⟩))) ?_
  funext q r
  refine (cmpGreater _ _).trans ?_
  unfold above
  rw [decide_eq_decide]
  exact iff_of_eq (congrArg₂ (fun a b => w a < w b) (along_last t p _ r) (along_last t p _ q))

/-- Row `1024 t + p` of the result holds the greatest entries of row `p` of batch `t`, by rank. -/
theorem greatest_hasRank (w : FVec Ideal S16x1024x1024 .f32) (t : Fin 16) (p : Fin 1024) (k : Fin 32) (r : Fin 16384)
    (hr : r.val = 1024 * t.val + p.val) :
    HasRank (fun q : Fin 1024 => w (ix3 t p q)) k (greatest w (ix2 r k)) := by
  have e : greatest w (ix2 r k)
      = (Host.topK S16x1024x32 2 (FloatOps.cmpfTotal .gt) w sliceFits_S16x1024x1024_S16x1024x32).1 (ix3 t p k) := by
    have ht : r.val / 1024 = t.val := by have := p.isLt; omega
    have hp : r.val % 1024 = p.val := by have := p.isLt; omega
    pointwise [greatest]
    exact congrArg₂ (fun a b => (Host.topK S16x1024x32 2 (FloatOps.cmpfTotal .gt) w sliceFits_S16x1024x1024_S16x1024x32).1 (ix3 a b k))
      (Fin.ext ht) (Fin.ext hp)
  rw [e, topK_apply]
  exact hasRank_sortedFrom (fun q : Fin 1024 => w (ix3 t p q)) ⟨k, k.isLt.trans (by decide)⟩

theorem hostMax_apply (c : FVec Ideal S_ .f32) (l : FVec Ideal S16x1024x1024 .f32) (t : Fin 16) (p : Fin 1024) :
    Host.reduce FloatOps.maximumf l c reducesTo_S16x1024x1024_S16x1024_d2 h_S_ (ix2 t p)
      = Finset.univ.fold max (c (Shape.Idx.first h_S_)) fun q : Fin 1024 => l (ix3 t p q) := by
  simp only [pointwise]

theorem maxWith_apply (c : FVec Ideal S_ .f32) (l : FVec Ideal S16x1024x1024 .f32) (t : Fin 16) (p : Fin 1024) :
    maximumf (broadcastInDim S16x1024 ![] bcast_S_S16x1024 c) (Host.reduce FloatOps.maximumf l c reducesTo_S16x1024x1024_S16x1024_d2 h_S_) (ix2 t p)
      = max (broadcastInDim S16x1024 ![] bcast_S_S16x1024 c (ix2 t p)) (Finset.univ.fold max (c (Shape.Idx.first h_S_)) fun q : Fin 1024 => l (ix3 t p q)) :=
  (maximumf_apply _ _ _).trans (congrArg (max _) (hostMax_apply c l t p))

theorem fold_hasRank {n : Nat} [NeZero n] (f : Fin n → EReal) : HasRank f 0 (max ⊥ (Finset.univ.fold max ⊥ f)) := by
  rw [max_eq_right bot_le]
  intro u
  rw [Finset.le_fold_max, reach_eq_card, Finset.card_pos]
  constructor
  · rintro (h | ⟨q, -, h⟩)
    · exact ⟨0, Finset.mem_filter.mpr ⟨Finset.mem_univ _, h.trans bot_le⟩⟩
    · exact ⟨q, Finset.mem_filter.mpr ⟨Finset.mem_univ _, h⟩⟩
  · rintro ⟨q, h⟩
    exact Or.inr ⟨q, Finset.mem_univ _, (Finset.mem_filter.mp h).2⟩

theorem minusInfinity : Ideal.ofBits .f32 0xFF800000#32 = ⊥ := by simp [Ideal.ofBits, Ideal.ieee]

theorem maxWith_hasRank (c : FVec Ideal S_ .f32) (hc : ∀ i, c i = ⊥) (l : FVec Ideal S16x1024x1024 .f32) (t : Fin 16) (p : Fin 1024) :
    HasRank (fun q : Fin 1024 => l (ix3 t p q)) 0
      (maximumf (broadcastInDim S16x1024 ![] bcast_S_S16x1024 c) (Host.reduce FloatOps.maximumf l c reducesTo_S16x1024x1024_S16x1024_d2 h_S_) (ix2 t p)) := by
  rw [maxWith_apply, hc]
  have h : broadcastInDim S16x1024 ![] bcast_S_S16x1024 c (ix2 t p) = ⊥ := hc _
  rw [h]
  exact fold_hasRank _

theorem bound_apply (i : S_.Idx) : constant (F := Ideal) S_ .f32 0xFF800000#32 i = ⊥ :=
  (constant_apply _ _ _ i).trans minusInfinity

/-- The row maximum is the entry of rank zero. -/
theorem rowMax_hasRank (l : FVec Ideal S16x1024x1024 .f32) (t : Fin 16) (p : Fin 1024) :
    HasRank (fun q : Fin 1024 => l (ix3 t p q)) 0 (rowMax l (ix2 t p)) := by
  unfold rowMax
  exact maxWith_hasRank _ bound_apply l t p

theorem half : Ideal.ofBits .f32 0x3F000000#32 = ((1 / 2 : ℝ) : EReal) := by
  simp [Ideal.ofBits, Ideal.ieee, -EReal.coe_mul]; norm_num

theorem half_double (x : EReal) : ((1 / 2 : ℝ) : EReal) * (x + x) = x := by
  induction x with
  | bot => rw [EReal.bot_add]; exact EReal.coe_mul_bot_of_pos (by norm_num)
  | top => rw [EReal.top_add_top]; exact EReal.coe_mul_top_of_pos (by norm_num)
  | coe r => rw [← EReal.coe_add, ← EReal.coe_mul]; congr 1; ring

theorem exp_monotone : Monotone Ideal.exp := by
  intro x y h
  induction x with
  | bot => induction y with
    | bot => exact le_rfl
    | top => exact le_top
    | coe r => exact EReal.coe_nonneg.mpr (Real.exp_pos r).le
  | top => rw [top_le_iff.mp h]
  | coe r => induction y with
    | bot => exact absurd h (not_le.mpr (EReal.bot_lt_coe r))
    | top => exact le_top
    | coe s => exact EReal.coe_le_coe_iff.mpr (Real.exp_le_exp.mpr (EReal.coe_le_coe_iff.mp h))

theorem exp_nonneg (x : EReal) : 0 ≤ Ideal.exp x := exp_monotone (bot_le : ⊥ ≤ x)

theorem div_monotone {s : EReal} (hs : 0 ≤ s) : Monotone fun x => Ideal.div x s := by
  intro x y h
  dsimp only
  unfold Ideal.div
  split_ifs with h0 h1 h2 h2
  · exact le_rfl
  · exact absurd (h1.trans_le h) h2
  · exact bot_le
  · exact le_rfl
  · exact mul_le_mul_of_nonneg_right h (EReal.inv_nonneg_of_nonneg hs)

/-- The edge weight of a logit grows with the logit. -/
theorem weight_monotone (l : Fin 1024 → EReal) (m : EReal) :
    Monotone fun x => Ideal.div (Ideal.exp (x - m)) (∑ r, Ideal.exp (l r - m)) :=
  (div_monotone (Finset.sum_nonneg fun _ _ => exp_nonneg _)).comp
    (exp_monotone.comp fun _ _ h => EReal.sub_le_sub h le_rfl)

end Cert.TopK.Ref

end
-- ==== Proof.Sorted.lean ====
/-
  What the comparator networks do, by thresholds: at any threshold the wires hold truth values, a comparator is an "or" and an
  "and", and a sorted run is fixed by how many of its wires are true. Each merging round is then a finite check, and the checks
  add up to: the wires come out in decreasing order, the k-th one true exactly when more than k were true at the start.
-/
module

public import proofs.«01_k».proof.Proof.Network
public import Mathlib.Algebra.BigOperators.Group.Finset.Basic
public import Mathlib.Data.Nat.Bitwise
public import Mathlib.Tactic.Ring

@[expose] public section

namespace Cert.TopK

open Finset

theorem runNet_nil {α : Type} (mx mn : α → α → α) (s : Nat → α) : runNet mx mn [] s = s := rfl

/-- One comparator on the wires. -/
def comparator {α : Type} (mx mn : α → α → α) (c : Nat × Nat) (s : Nat → α) (k : Nat) : α :=
  if k = c.1 then mx (s c.1) (s c.2) else if k = c.2 then mn (s c.1) (s c.2) else s k

theorem runNet_cons {α : Type} (mx mn : α → α → α) (c : Nat × Nat) (cs : List (Nat × Nat)) (s : Nat → α) :
    runNet mx mn (c :: cs) s = runNet mx mn cs (comparator mx mn c s) := by
  have h : (fun k => Bool.rec (motive := fun _ => α) (Bool.rec (motive := fun _ => α) (s k) (mn (s c.1) (s c.2)) (Nat.beq k c.2))
      (mx (s c.1) (s c.2)) (Nat.beq k c.1)) = comparator mx mn c s := by
    funext k
    unfold comparator
    by_cases h1 : k = c.1
    · rw [if_pos h1, show Nat.beq k c.1 = true from h1 ▸ Nat.beq_refl k]
    · rw [if_neg h1, Bool.eq_false_iff.mpr (fun e => h1 (Nat.eq_of_beq_eq_true e))]
      by_cases h2 : k = c.2
      · rw [if_pos h2, show Nat.beq k c.2 = true from h2 ▸ Nat.beq_refl k]
      · rw [if_neg h2, Bool.eq_false_iff.mpr (fun e => h2 (Nat.eq_of_beq_eq_true e))]
  rw [← h]
  rfl

/-- A map that turns the maximum and the minimum of one carrier into those of another commutes with a network. -/
theorem runNet_map {α β : Type} (mx mn : α → α → α) (mx' mn' : β → β → β) (f : α → β)
    (hmx : ∀ x y, f (mx x y) = mx' (f x) (f y)) (hmn : ∀ x y, f (mn x y) = mn' (f x) (f y)) (cs : List (Nat × Nat)) :
    ∀ (s : Nat → α) (k : Nat), f (runNet mx mn cs s k) = runNet mx' mn' cs (fun i => f (s i)) k := by
  induction cs with
  | nil => intro s k; rfl
  | cons c cs ih =>
    intro s k
    rw [runNet_cons, runNet_cons, ih]
    congr 1
    funext i
    unfold comparator
    split_ifs
    · exact hmx _ _
    · exact hmn _ _
    · rfl

/-- Wires no comparator ties to the others depend on themselves alone. -/
theorem runNet_local {α : Type} (mx mn : α → α → α) (P : Nat → Prop) (cs : List (Nat × Nat)) (hcs : ∀ c ∈ cs, P c.1 ↔ P c.2) :
    ∀ (s s' : Nat → α), (∀ k, P k → s k = s' k) → ∀ k, P k → runNet mx mn cs s k = runNet mx mn cs s' k := by
  induction cs with
  | nil => intro s s' h k hk; exact h k hk
  | cons c cs ih =>
    intro s s' h k hk
    rw [runNet_cons, runNet_cons]
    refine ih (fun d hd => hcs d (List.mem_cons_of_mem _ hd)) _ _ ?_ k hk
    intro i hi
    have hc := hcs c List.mem_cons_self
    unfold comparator
    split_ifs with h1 h2
    · rw [h c.1 (h1 ▸ hi), h c.2 (hc.mp (h1 ▸ hi))]
    · rw [h c.1 (hc.mpr (h2 ▸ hi)), h c.2 (h2 ▸ hi)]
    · exact h i hi

/-- One comparator on wires packed into the bits of a number. -/
def packedStep (n : Nat) (c : Nat × Nat) : Nat :=
  bif !n.testBit c.1 && n.testBit c.2 then (n ^^^ 2 ^ c.1) ^^^ 2 ^ c.2 else n

/-- A network on packed wires. -/
def packedNet (cs : List (Nat × Nat)) (n : Nat) : Nat := cs.foldl packedStep n

theorem testBit_packedStep (n : Nat) (c : Nat × Nat) :
    (packedStep n c).testBit = comparator (· || ·) (· && ·) c n.testBit := by
  funext k
  unfold packedStep comparator
  cases h1 : n.testBit c.1 <;> cases h2 : n.testBit c.2 <;> simp
  · by_cases k1 : k = c.1
    · subst k1; simp [h1]
    · by_cases k2 : k = c.2
      · subst k2; simp [h2]
      · simp [k1, k2]
  · by_cases k1 : k = c.1
    · subst k1
      have : c.2 ≠ c.1 := by intro e; rw [e, h1] at h2; exact absurd h2 (by decide)
      simp [Nat.testBit_xor, Nat.testBit_two_pow, h1, this]
    · by_cases k2 : k = c.2
      · subst k2
        simp [Nat.testBit_xor, Nat.testBit_two_pow, h2, k1, Ne.symm k1]
      · simp [Nat.testBit_xor, Nat.testBit_two_pow, k1, k2, Ne.symm k1, Ne.symm k2]
  · by_cases k1 : k = c.1
    · subst k1; simp [h1]
    · by_cases k2 : k = c.2
      · subst k2; simp [h2, k1]
      · simp [k1, k2]
  · by_cases k1 : k = c.1
    · subst k1; simp [h1]
    · by_cases k2 : k = c.2
      · subst k2; simp [h2]
      · simp [k1, k2]

theorem testBit_packedNet (cs : List (Nat × Nat)) :
    ∀ (n k : Nat), (packedNet cs n).testBit k = runNet (· || ·) (· && ·) cs n.testBit k := by
  induction cs with
  | nil => intro n k; rfl
  | cons c cs ih =>
    intro n k
    rw [runNet_cons, ← testBit_packedStep]
    exact ih (packedStep n c) k

/-- The `n` wires from wire `o` on are sorted and the first `c` of them are true. -/
def SortedRun (σ : Nat → Bool) (o n c : Nat) : Prop := c ≤ n ∧ ∀ k < n, σ (o + k) = decide (k < c)

/-- The packed wires of a sorted run of `c` true wires from wire `o` on. -/
def packedRun (o c : Nat) : Nat := (2 ^ c - 1) <<< o

theorem testBit_packedRun (o c k : Nat) : (packedRun o c).testBit k = decide (o ≤ k ∧ k - o < c) := by
  unfold packedRun
  rw [Nat.testBit_shiftLeft, Nat.testBit_two_pow_sub_one]
  by_cases h : o ≤ k <;> simp [h]

/-- The check that a round merges the two runs of length `p` in group `g`. -/
def mergesGroup (cs : List (Nat × Nat)) (p g : Nat) : Bool :=
  (cs.all fun c => (Nat.ble (2 * p * g) c.1 && Nat.blt c.1 (2 * p * g + 2 * p)) == (Nat.ble (2 * p * g) c.2 && Nat.blt c.2 (2 * p * g + 2 * p))) &&
  (List.range (p + 1)).all fun a => (List.range (p + 1)).all fun b =>
    Nat.beq (packedNet cs (packedRun (2 * p * g) a ||| packedRun (2 * p * g + p) b)) (packedRun (2 * p * g) (a + b))

theorem merges1 : ((List.range 16).all fun g => mergesGroup merge1 1 g) = true := by decide +kernel
theorem merges2 : ((List.range 8).all fun g => mergesGroup merge2 2 g) = true := by decide +kernel
theorem merges4 : ((List.range 4).all fun g => mergesGroup merge4 4 g) = true := by decide +kernel
theorem merges8 : ((List.range 2).all fun g => mergesGroup merge8 8 g) = true := by decide +kernel
theorem merges16 : ((List.range 1).all fun g => mergesGroup merge16 16 g) = true := by decide +kernel

/-- The check that the bitonic merge sorts a descending run laid over an ascending one. -/
theorem bitonic_sorts : ((List.range 33).all fun a => (List.range 33).all fun b =>
    Nat.beq (packedNet bitonic (packedRun 0 a ||| packedRun (32 - b) b)) (packedRun 0 (min 32 (a + b)))) = true := by decide +kernel

theorem merged {cs : List (Nat × Nat)} {p g : Nat} (h : mergesGroup cs p g = true) {σ : Nat → Bool} {a b : Nat}
    (ha : SortedRun σ (2 * p * g) p a) (hb : SortedRun σ (2 * p * g + p) p b) :
    SortedRun (runNet (· || ·) (· && ·) cs σ) (2 * p * g) (2 * p) (a + b) := by
  unfold mergesGroup at h
  rw [Bool.and_eq_true, List.all_eq_true] at h
  obtain ⟨h1, h2⟩ := h
  have h3 := List.all_eq_true.mp (List.all_eq_true.mp h2 a (List.mem_range.mpr (Nat.lt_succ_of_le ha.1))) b
    (List.mem_range.mpr (Nat.lt_succ_of_le hb.1))
  have h4 := Nat.eq_of_beq_eq_true h3
  have ha1 := ha.1
  have hb1 := hb.1
  refine ⟨by omega, ?_⟩
  intro k hk
  set o := 2 * p * g with ho
  rw [runNet_local (· || ·) (· && ·) (fun i => o ≤ i ∧ i < o + 2 * p) cs ?_ σ
    (packedRun o a ||| packedRun (o + p) b).testBit ?_ (o + k) ⟨by omega, by omega⟩, ← testBit_packedNet, h4, testBit_packedRun]
  · simp
  · intro c hc
    have := h1 c hc
    simp only [beq_iff_eq] at this
    have e : ∀ i, (Nat.ble o i && Nat.blt i (o + 2 * p)) = true ↔ (o ≤ i ∧ i < o + 2 * p) := by
      intro i
      rw [Bool.and_eq_true, Nat.ble_eq, Nat.blt_eq]
    rw [← e, ← e, this]
  · intro i hi
    rw [Nat.testBit_or, testBit_packedRun, testBit_packedRun]
    by_cases hlo : i < o + p
    · have := ha.2 (i - o) (by omega)
      rw [show o + (i - o) = i by omega] at this
      rw [this]
      simp [hi.1, show ¬ o + p ≤ i by omega]
    · have := hb.2 (i - (o + p)) (by omega)
      rw [show o + p + (i - (o + p)) = i by omega] at this
      rw [this]
      simp [show ¬ i - o < a by omega, show o + p ≤ i by omega]

/-- How many of the `n` wires from wire `o` on are true. -/
def trueCount (σ : Nat → Bool) (o n : Nat) : Nat := ∑ k ∈ range n, (σ (o + k)).toNat

theorem trueCount_add (σ : Nat → Bool) (o n m : Nat) : trueCount σ o (n + m) = trueCount σ o n + trueCount σ (o + n) m := by
  unfold trueCount
  rw [sum_range_add]
  simp only [Nat.add_assoc]

/-- One merging round doubles the length of the sorted runs. -/
theorem round_sorted {cs : List (Nat × Nat)} {p G : Nat} (h : ((List.range G).all fun g => mergesGroup cs p g) = true)
    {σ σ₀ : Nat → Bool} (hσ : ∀ g < 2 * G, SortedRun σ (p * g) p (trueCount σ₀ (p * g) p)) :
    ∀ g < G, SortedRun (runNet (· || ·) (· && ·) cs σ) (2 * p * g) (2 * p) (trueCount σ₀ (2 * p * g) (2 * p)) := by
  intro g hg
  have e := hσ (2 * g) (by omega)
  have e' := hσ (2 * g + 1) (by omega)
  rw [show p * (2 * g) = 2 * p * g by ring] at e
  rw [show p * (2 * g + 1) = 2 * p * g + p by ring] at e'
  rw [show trueCount σ₀ (2 * p * g) (2 * p) = _ from (congrArg _ (two_mul p)).trans (trueCount_add σ₀ (2 * p * g) p p)]
  exact merged (List.all_eq_true.mp h g (List.mem_range.mpr hg)) e e'

/-- The five rounds one after the other. -/
def mergeSort {α : Type} (mx mn : α → α → α) (s : Nat → α) : Nat → α :=
  runNet mx mn merge16 (runNet mx mn merge8 (runNet mx mn merge4 (runNet mx mn merge2 (runNet mx mn merge1 s))))

theorem mergeSort_sorted (σ : Nat → Bool) : SortedRun (mergeSort (· || ·) (· && ·) σ) 0 32 (trueCount σ 0 32) := by
  have h0 : ∀ g < 2 * 16, SortedRun σ (1 * g) 1 (trueCount σ (1 * g) 1) := by
    intro g _
    unfold SortedRun trueCount
    rw [sum_range_one]
    refine ⟨Bool.toNat_le _, ?_⟩
    intro k hk
    obtain rfl : k = 0 := by omega
    cases σ (1 * g + 0) <;> rfl
  exact round_sorted merges16 (round_sorted merges8 (round_sorted merges4 (round_sorted merges2 (round_sorted merges1 h0)))) 0 (by decide)

/-- The bitonic merge of a descending run laid over a mirrored one. -/
theorem bitonic_sorted {σ τ : Nat → Bool} {a b : Nat} (hσ : SortedRun σ 0 32 a) (hτ : SortedRun τ 0 32 b) :
    SortedRun (runNet (· || ·) (· && ·) bitonic fun i => σ i || τ (31 - i)) 0 32 (min 32 (a + b)) := by
  have ha := hσ.1
  have hb := hτ.1
  have h3 := List.all_eq_true.mp (List.all_eq_true.mp bitonic_sorts a (List.mem_range.mpr (Nat.lt_succ_of_le ha))) b
    (List.mem_range.mpr (Nat.lt_succ_of_le hb))
  have h4 := Nat.eq_of_beq_eq_true h3
  refine ⟨Nat.min_le_left _ _, ?_⟩
  intro k hk
  rw [runNet_local (· || ·) (· && ·) (fun i => i < 32) bitonic (by decide) _
    (packedRun 0 a ||| packedRun (32 - b) b).testBit ?_ (0 + k) (by omega), ← testBit_packedNet, h4, testBit_packedRun]
  · simp
  · intro i hi
    have e := hσ.2 i hi
    have e' := hτ.2 (31 - i) (by omega)
    rw [Nat.zero_add] at e e'
    rw [Nat.testBit_or, testBit_packedRun, testBit_packedRun, e, e']
    congr 1
    · simp
    · rw [decide_eq_decide]
      omega

end Cert.TopK

end
-- ==== Proof.TopRows.lean ====
/-
  The rows the sorting network leaves, over the extended reals: in each column, row `k` holds the entry of rank `k` of that
  column of the logits.
-/
module

public import proofs.«01_k».proof.Proof.BlockTerm
public import proofs.«01_k».proof.Proof.Sorted
public import proofs.«01_k».proof.Proof.Rank
public import Idealize.ShloMosaic.Lib.Pointwise

@[expose] public section

set_option maxRecDepth 16384

noncomputable section

namespace Cert.TopK

open Cert.KernelIdeal Idealize.ShloMosaic Finset

/-- The wires at one place of the slabs, against a threshold. -/
def atLeast {g : Nat} (t : EReal) (s : Nat → FVec Ideal (slabShape g) .f32) (r : Fin g) (l : Fin 1024) (a : Nat) : Bool :=
  decide (t ≤ s a (ix2 r l))

/-- A network on slabs is the network of truth values at every place and threshold. -/
theorem atLeast_slabNet {g : Nat} (cs : List (Nat × Nat)) (s : Nat → FVec Ideal (slabShape g) .f32) (t : EReal) (r : Fin g)
    (l : Fin 1024) : atLeast t (slabNet cs s) r l = runNet (· || ·) (· && ·) cs (atLeast t s r l) := by
  funext a
  rw [slabNet_eq]
  refine runNet_map maximumf minimumf (· || ·) (· && ·) (fun v : FVec Ideal (slabShape g) .f32 => decide (t ≤ v (ix2 r l)))
    ?_ ?_ cs s a
  · intro x y
    show decide (t ≤ max (x (ix2 r l)) (y (ix2 r l))) = _
    rw [← Bool.decide_or, decide_eq_decide]
    exact le_max_iff
  · intro x y
    show decide (t ≤ min (x (ix2 r l)) (y (ix2 r l))) = _
    rw [← Bool.decide_and, decide_eq_decide]
    exact le_min_iff

/-- How many rows of the logits that share a remainder reach the threshold. -/
def slabCount (x : FVec Ideal S1024x1024 .f32) (t : EReal) (l : Fin 1024) (r : Nat) : Nat :=
  if h : r < 32 then trueCount (atLeast t (slab x) ⟨r, h⟩ l) 0 32 else 0

theorem sorted_slabs (x : FVec Ideal S1024x1024 .f32) (t : EReal) (r : Fin 32) (l : Fin 1024) :
    SortedRun (atLeast t (sortedSlab x) r l) 0 32 (min 32 (slabCount x t l r)) := by
  have h := mergeSort_sorted (atLeast t (slab x) r l)
  unfold sortedSlab
  rw [atLeast_slabNet, atLeast_slabNet, atLeast_slabNet, atLeast_slabNet, atLeast_slabNet]
  unfold slabCount
  rw [dif_pos r.isLt, Nat.min_eq_right h.1]
  exact h

/-- The counts of rows `h` apart, added. -/
def foldCount (h : Nat) (c : Nat → Nat) (r : Nat) : Nat := c r + c (r + h)

/-- One halving adds the counts of the two rows it folds together. -/
theorem sorted_halve {g h : Nat} (e : h + h ≤ g) (s : Nat → FVec Ideal (slabShape g) .f32) (t : EReal) (l : Fin 1024)
    (c : Nat → Nat) (hs : ∀ r : Fin g, SortedRun (atLeast t s r l) 0 32 (min 32 (c r))) (r : Fin h) :
    SortedRun (atLeast t (halve g h e s) r l) 0 32 (min 32 (foldCount h c r)) := by
  unfold foldCount
  have h1 := hs ⟨r, by have := r.isLt; omega⟩
  have h2 := hs ⟨r + h, by have := r.isLt; omega⟩
  have h3 := bitonic_sorted h1 h2
  rw [show min 32 (min 32 (c r) + min 32 (c (r + h))) = min 32 (c r + c (r + h)) by omega] at h3
  unfold halve
  rw [atLeast_slabNet]
  convert h3 using 2
  funext a
  unfold atLeast foldHalves
  rw [← Bool.decide_or, decide_eq_decide]
  show t ≤ max _ _ ↔ _
  rw [le_max_iff]
  refine or_congr (iff_of_eq (congrArg (t ≤ s a ·) ?_)) (iff_of_eq (congrArg (t ≤ s (31 - a) ·) ?_))
  · funext k
    refine Fin.ext ?_
    fin_cases k
    · exact Nat.zero_add _
    · exact Nat.zero_add _
  · funext k
    refine Fin.ext ?_
    fin_cases k
    · exact Nat.add_comm _ _
    · exact Nat.zero_add _

/-- The counts of the remainders add up to the column's. -/
theorem sum_slabCount (x : FVec Ideal S1024x1024 .f32) (t : EReal) (l : Fin 1024) :
    ∑ r ∈ range 32, slabCount x t l r = reach (fun i : Fin 1024 => x (ix2 i l)) t := by
  set f : Nat → Nat := fun i => if h : i < 1024 then (decide (t ≤ x (ix2 ⟨i, h⟩ l))).toNat else 0 with hf
  have h1 : reach (fun i : Fin 1024 => x (ix2 i l)) t = ∑ i ∈ range (32 * 32), f i := by
    unfold reach
    rw [Finset.sum_range (n := 1024) f]
    refine Finset.sum_congr rfl fun i _ => ?_
    rw [hf]
    dsimp only
    rw [dif_pos i.isLt]
  rw [h1, sum_blocks]
  refine Finset.sum_congr rfl fun r hr => ?_
  have hr' := mem_range.mp hr
  unfold slabCount trueCount
  rw [dif_pos hr']
  refine Finset.sum_congr rfl fun q hq => ?_
  have hq' := mem_range.mp hq
  rw [hf]
  dsimp only
  rw [dif_pos (show 32 * q + r < 1024 by omega)]
  unfold atLeast slab
  rw [Nat.zero_add]
  refine congrArg (fun k => (decide (t ≤ x k)).toNat) ?_
  funext k
  refine Fin.ext ?_
  fin_cases k
  · show 32 * (q % 32) + r = 32 * q + r
    rw [Nat.mod_eq_of_lt hq']
  · exact Nat.zero_add _

/-- Row `k` of the network's result holds each column's entry of rank `k`. -/
theorem topRow_hasRank (x : FVec Ideal S1024x1024 .f32) (k : Nat) (hk : k < 32) (l : Fin 1024) :
    HasRank (fun i : Fin 1024 => x (ix2 i l)) k (topRow x k (ix2 (0 : Fin 1) l)) := by
  intro t
  have h := sorted_halve (g := 2) (h := 1) (by decide) _ t l _ (sorted_halve (g := 4) (h := 2) (by decide) _ t l _
    (sorted_halve (g := 8) (h := 4) (by decide) _ t l _ (sorted_halve (g := 16) (h := 8) (by decide) _ t l _
      (sorted_halve (g := 32) (h := 16) (by decide) _ t l _ fun r => sorted_slabs x t r l)))) (0 : Fin 1)
  have h' := h.2 k hk
  rw [← sum_slabCount]
  simp only [Finset.sum_range_succ, Finset.sum_range_zero]
  simp only [foldCount, Fin.val_zero, Nat.zero_add, Nat.reduceAdd] at h'
  unfold atLeast at h'
  rw [decide_eq_decide] at h'
  refine h'.trans ?_
  omega

end Cert.TopK

end
-- ==== Proof.BlockValue.lean ====
/-
  What the kernel body stores, read at an index over the extended reals.
-/
module

public import proofs.«01_k».proof.Proof.TopRows
public import Idealize.ShloMosaic.Lib.Pointwise

@[expose] public section

set_option maxRecDepth 16384

noncomputable section

namespace Cert.TopK

open Cert.KernelIdeal Cert.KernelIdeal.Gen Idealize.ShloMosaic

theorem topBlock_apply (x : FVec Ideal S1024x1024 .f32) (k : Fin 32) (l : Fin 1024) :
    topBlock x (ix2 k l) = topRow x k (ix2 (0 : Fin 1) l) :=
  concatenate_ofFn_unit_apply (t := S32x1024) (s₁ := S1x1024) 0 (fun n : Fin 32 => topRow x n)
    (by decide : Shape.Concatenates (List.replicate 32 S1x1024) S32x1024 0) rfl rfl (ix2 k l) k rfl (ix2 0 l) (by
      intro b hb
      fin_cases b
      · exact absurd rfl hb
      · rfl)

theorem colMax_apply (x : FVec Ideal S1024x1024 .f32) (l : Fin 1024) :
    colMax x (ix2 (0 : Fin 1) l) = topRow x 0 (ix2 (0 : Fin 1) l) := by
  rw [show topRow x 0 = topRow x (0 : Fin 32) from rfl, ← topBlock_apply]
  unfold colMax
  pointwise

theorem numerators_apply (x : FVec Ideal S1024x1024 .f32) (k : Fin 32) (l : Fin 1024) :
    numerators x (ix2 k l) = Ideal.exp (topRow x k (ix2 (0 : Fin 1) l) - topRow x 0 (ix2 (0 : Fin 1) l)) := by
  pointwise [numerators]
  simp only [topBlock_apply, colMax_apply]

theorem denominators_apply (x : FVec Ideal S1024x1024 .f32) (l : Fin 1024) :
    denominators x (ix1 l) = ∑ i : Fin 1024, Ideal.exp (x (ix2 i l) - topRow x 0 (ix2 (0 : Fin 1) l)) := by
  pointwise [denominators]
  simp only [colMax_apply]

theorem blockOut_apply (x : FVec Ideal S1024x1024 .f32) (l : Fin 1024) (k : Fin 32) :
    blockOut x (ix2 l k) = Ideal.div (Ideal.exp (topRow x k (ix2 (0 : Fin 1) l) - topRow x 0 (ix2 (0 : Fin 1) l)))
      (∑ i : Fin 1024, Ideal.exp (x (ix2 i l) - topRow x 0 (ix2 (0 : Fin 1) l))) := by
  rw [← numerators_apply, ← denominators_apply]
  pointwise [blockOut, k0_pay1]

end Cert.TopK

end
-- ==== Proof.Meeting.lean ====
/-
  The reference's logits are the plain sums, and on equal logits its edge weights are those of a kernel block.
-/
module

public import proofs.«01_k».proof.Proof.RefValue
public import proofs.«01_k».proof.Proof.Logit
public import proofs.«01_k».proof.Proof.TopRows
public import proofs.«01_k».proof.Proof.BlockValue

@[expose] public section

set_option maxRecDepth 16384

noncomputable section

namespace Cert.TopK.Ref

open Cert.ReferenceIdeal Cert.ReferenceIdeal.Gen Idealize.ShloMosaic Idealize.ShloMosaic.TcCoe

theorem sum_split (f : Fin 768 → EReal) :
    ∑ k, f k = ∑ k : Fin 256, f (Fin.castAdd 512 k) + ∑ k : Fin 512, f (Fin.natAdd 256 k) :=
  Fin.sum_univ_add (a := 256) (b := 512) f

/-- The hidden features: the appended condition is a second sum. -/
theorem hidden_eq (nf : FVec Ideal S16x1024x256 .f32) (cd : FVec Ideal S16x512 .f32) (v1 : FVec Ideal S256x768 .f32)
    (g1 b1 : FVec Ideal S256 .f32) (t : Fin 16) (i : Fin 1024) (e : Fin 256) :
    hidden (features nf cd) (weight1 v1 g1) b1 (ix3 t i e)
      = TopK.hidden (fun k => nf (ix3 t i k)) (fun k => cd (ix2 t k)) (fun e k => v1 (ix2 e (Fin.castAdd 512 k)))
        (fun e k => v1 (ix2 e (Fin.natAdd 256 k))) (fun e => g1 (ix1 e)) (fun e => b1 (ix1 e)) e := by
  have hn : ∀ e, Ideal.sqrt (∑ l : Fin 768, v1 (ix2 e l) * v1 (ix2 e l))
      = rowNorm1 (fun e k => v1 (ix2 e (Fin.castAdd 512 k))) (fun e k => v1 (ix2 e (Fin.natAdd 256 k))) e := fun e =>
    congrArg Ideal.sqrt (sum_split _)
  have hl : ∀ k : Fin 256, features nf cd (ix3 t i (Fin.castAdd 512 k)) * weight1 v1 g1 (ix2 e (Fin.castAdd 512 k))
      = nf (ix3 t i k) * Ideal.div (g1 (ix1 e) * v1 (ix2 e (Fin.castAdd 512 k)))
        (rowNorm1 (fun e k => v1 (ix2 e (Fin.castAdd 512 k))) (fun e k => v1 (ix2 e (Fin.natAdd 256 k))) e) := fun k =>
    congrArg₂ _ (features_left nf cd t i k) ((weight1_apply v1 g1 e _).trans (congrArg _ (hn e)))
  have hr : ∀ k : Fin 512, features nf cd (ix3 t i (Fin.natAdd 256 k)) * weight1 v1 g1 (ix2 e (Fin.natAdd 256 k))
      = cd (ix2 t k) * Ideal.div (g1 (ix1 e) * v1 (ix2 e (Fin.natAdd 256 k)))
        (rowNorm1 (fun e k => v1 (ix2 e (Fin.castAdd 512 k))) (fun e k => v1 (ix2 e (Fin.natAdd 256 k))) e) := fun k =>
    congrArg₂ _ (features_right nf cd t i k) ((weight1_apply v1 g1 e _).trans (congrArg _ (hn e)))
  rw [hidden_apply, sum_split]
  unfold TopK.hidden
  exact congrArg (fun s => max (s + b1 (ix1 e)) 0)
    (congrArg₂ _ (Finset.sum_congr rfl fun k _ => hl k) (Finset.sum_congr rfl fun k _ => hr k))

/-- The joint features. -/
theorem joint_eq (h : FVec Ideal S16x1024x256 .f32) (v2 : FVec Ideal S256x256 .f32) (g2 b2 : FVec Ideal S256 .f32) (t : Fin 16)
    (i : Fin 1024) (e : Fin 256) :
    joint h (weight2 v2 g2) b2 (ix3 t i e)
      = TopK.joint (fun k => h (ix3 t i k)) (fun e k => v2 (ix2 e k)) (fun e => g2 (ix1 e)) (fun e => b2 (ix1 e)) e := by
  rw [joint_apply]
  simp only [weight2_apply]
  rfl

/-- Mirroring leaves the products of all pairs as they are. -/
theorem mirrored_gram (j : FVec Ideal S16x1024x256 .f32) (t : Fin 16) (p q : Fin 1024) :
    mirrored (gram j) (ix3 t p q) = logit (fun k => j (ix3 t p k)) (fun k => j (ix3 t q k)) := by
  rw [mirrored_apply, gram_apply, gram_apply, half]
  have e : ∑ k : Fin 256, j (ix3 t q k) * j (ix3 t p k) = ∑ k : Fin 256, j (ix3 t p k) * j (ix3 t q k) :=
    logit_comm (fun k => j (ix3 t q k)) (fun k => j (ix3 t p k))
  rw [e, half_double]
  rfl

/-- On equal logits the reference's row of a node is the kernel block's row. -/
theorem meet (w : FVec Ideal S16x1024x1024 .f32) (x : FVec Ideal Cert.KernelIdeal.S1024x1024 .f32) (t : Fin 16)
    (h : ∀ p q : Fin 1024, w (ix3 t p q) = x (ix2 q p)) (p : Fin 1024) (k : Fin 32) (r : Fin 16384)
    (hr : r.val = 1024 * t.val + p.val) : greatest (softmax w) (ix2 r k) = blockOut x (ix2 p k) := by
  have hw : (fun q : Fin 1024 => w (ix3 t p q)) = fun q => x (ix2 q p) := funext fun q => h p q
  have hm : rowMax w (ix2 t p) = topRow x 0 (ix2 (0 : Fin 1) p) :=
    (hw ▸ rowMax_hasRank w t p).unique (topRow_hasRank x 0 (by decide) p)
  have hs : (fun q : Fin 1024 => softmax w (ix3 t p q))
      = fun q => Ideal.div (Ideal.exp (x (ix2 q p) - topRow x 0 (ix2 (0 : Fin 1) p)))
        (∑ i : Fin 1024, Ideal.exp (x (ix2 i p) - topRow x 0 (ix2 (0 : Fin 1) p))) := by
    funext q
    rw [softmax_apply, hm]
    simp only [h]
  have hk : HasRank (fun q : Fin 1024 => softmax w (ix3 t p q)) k (blockOut x (ix2 p k)) := by
    rw [hs, blockOut_apply]
    exact HasRank.map (k := ⟨k, k.isLt.trans (by decide)⟩) (topRow_hasRank x k k.isLt p)
      (weight_monotone (fun i => x (ix2 i p)) (topRow x 0 (ix2 (0 : Fin 1) p)))
  exact (greatest_hasRank (softmax w) t p k r hr).unique hk

end Cert.TopK.Ref

end
-- ==== Proof.Result.lean ====
/-
  The reference's result is the kernel's.
-/
module

public import proofs.«01_k».proof.Proof.Blocks
public import proofs.«01_k».proof.Proof.Meeting

@[expose] public section

set_option maxRecDepth 16384

noncomputable section

namespace Cert.TopK

open Cert.KernelIdeal Cert.KernelIdeal.Gen Idealize.ShloMosaic Idealize.ShloMosaic.TcCoe

/-- The reference's logits, as it averages them over both directions. -/
def refLogits (nf : FVec Ideal S16x1024x256 .f32) (cd : FVec Ideal S16x512 .f32) (v1 : FVec Ideal S256x768 .f32) (g1 b1 : FVec Ideal S256 .f32)
    (v2 : FVec Ideal S256x256 .f32) (g2 b2 : FVec Ideal S256 .f32) : FVec Ideal Cert.ReferenceIdeal.S16x1024x1024 .f32 :=
  Ref.mirrored (Ref.gram (Ref.joint (Ref.hidden (Ref.features nf cd) (Ref.weight1 v1 g1) b1) (Ref.weight2 v2 g2) b2))

/-- They are the products of the nodes' joint features. -/
theorem refLogits_apply (nf : FVec Ideal S16x1024x256 .f32) (cd : FVec Ideal S16x512 .f32) (v1 : FVec Ideal S256x768 .f32)
    (g1 b1 : FVec Ideal S256 .f32) (v2 : FVec Ideal S256x256 .f32) (g2 b2 : FVec Ideal S256 .f32) (t : Fin 16) (p q : Fin 1024) :
    refLogits nf cd v1 g1 b1 v2 g2 b2 (ix3 t p q)
      = logit
        (joint (hidden (fun k => nf (ix3 t p k)) (fun k => cd (ix2 t k)) (fun e k => v1 (ix2 e (Fin.castAdd 512 k)))
          (fun e k => v1 (ix2 e (Fin.natAdd 256 k))) (fun e => g1 (ix1 e)) (fun e => b1 (ix1 e))) (fun e k => v2 (ix2 e k))
          (fun e => g2 (ix1 e)) (fun e => b2 (ix1 e)))
        (joint (hidden (fun k => nf (ix3 t q k)) (fun k => cd (ix2 t k)) (fun e k => v1 (ix2 e (Fin.castAdd 512 k)))
          (fun e k => v1 (ix2 e (Fin.natAdd 256 k))) (fun e => g1 (ix1 e)) (fun e => b1 (ix1 e))) (fun e k => v2 (ix2 e k))
          (fun e => g2 (ix1 e)) (fun e => b2 (ix1 e))) := by
  have h : ∀ i : Fin 1024, (fun e : Fin 256 => Ref.joint (Ref.hidden (Ref.features nf cd) (Ref.weight1 v1 g1) b1) (Ref.weight2 v2 g2) b2 (ix3 t i e))
      = joint (hidden (fun k => nf (ix3 t i k)) (fun k => cd (ix2 t k)) (fun e k => v1 (ix2 e (Fin.castAdd 512 k)))
          (fun e k => v1 (ix2 e (Fin.natAdd 256 k))) (fun e => g1 (ix1 e)) (fun e => b1 (ix1 e))) (fun e k => v2 (ix2 e k))
          (fun e => g2 (ix1 e)) (fun e => b2 (ix1 e)) := by
    intro i
    funext e
    rw [Ref.joint_eq]
    exact congrArg (fun f => joint f _ _ _ e) (funext fun k => Ref.hidden_eq nf cd v1 g1 b1 t i k)
  exact (Ref.mirrored_gram _ t p q).trans (congrArg₂ logit (h p) (h q))

variable (m : (ℓ : Loc nD τ sig) → Buf (Elt Ideal) ℓ)

/-- The reference's result on the arguments at launch is the kernel's result array. -/
theorem greatest_eq (c : Dev nD) :
    Ref.greatest (Ref.softmax (refLogits (launched m c main_arg0) (launched m c main_arg1) (launched m c main_arg2) (launched m c main_arg3)
      (launched m c main_arg4) (launched m c main_arg5) (launched m c main_arg6) (launched m c main_arg7)))
      = (dats m 0 c).arrAt 9 cfg0.N := by
  funext j
  rw [eq_ix2 (n0 := 16384) (n1 := 32) j]
  have hj : (j 0).val < 16384 := (j 0).isLt
  have hN : cfg0.N = 16 := N_0
  have ht : (j 0).val / 1024 < 16 := by omega
  have hp : (j 0).val % 1024 < 1024 := Nat.mod_lt _ (by decide)
  have hr : (j 0).val = 1024 * ((j 0).val / 1024) + (j 0).val % 1024 := (Nat.div_add_mod _ _).symm
  refine (Ref.meet _ (pointLogits m c ⟨(j 0).val / 1024, hN ▸ ht⟩) ⟨(j 0).val / 1024, ht⟩ (fun p q => ?_) ⟨(j 0).val % 1024, hp⟩ (j 1) (j 0) hr).trans
    (result_apply m c ⟨(j 0).val / 1024, hN ▸ ht⟩ ⟨(j 0).val % 1024, hp⟩ (j 1) (j 0) hr).symm
  exact (refLogits_apply _ _ _ _ _ _ _ _ _ p q).trans ((logit_comm _ _).trans
    (pointLogits_apply m c ⟨(j 0).val / 1024, hN ▸ ht⟩ ⟨(j 0).val / 1024, ht⟩ rfl q p).symm)

/-- From equal arguments the reference's result is the kernel's result array. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = launched m c main_arg0)
    (h1 : m' ((c.tc : Thread Cert.ReferenceIdeal.nD Cert.ReferenceIdeal.τ).loc Cert.ReferenceIdeal.main_arg1) = launched m c main_arg1)
    (h2 : m' ((c.tc : Thread Cert.ReferenceIdeal.nD Cert.ReferenceIdeal.τ).loc Cert.ReferenceIdeal.main_arg2) = launched m c main_arg2)
    (h3 : m' ((c.tc : Thread Cert.ReferenceIdeal.nD Cert.ReferenceIdeal.τ).loc Cert.ReferenceIdeal.main_arg3) = launched m c main_arg3)
    (h4 : m' ((c.tc : Thread Cert.ReferenceIdeal.nD Cert.ReferenceIdeal.τ).loc Cert.ReferenceIdeal.main_arg4) = launched m c main_arg4)
    (h5 : m' ((c.tc : Thread Cert.ReferenceIdeal.nD Cert.ReferenceIdeal.τ).loc Cert.ReferenceIdeal.main_arg5) = launched m c main_arg5)
    (h6 : m' ((c.tc : Thread Cert.ReferenceIdeal.nD Cert.ReferenceIdeal.τ).loc Cert.ReferenceIdeal.main_arg6) = launched m c main_arg6)
    (h7 : m' ((c.tc : Thread Cert.ReferenceIdeal.nD Cert.ReferenceIdeal.τ).loc Cert.ReferenceIdeal.main_arg7) = launched m c main_arg7) :
    Cert.ReferenceIdeal.Value.res_main_v44 m' c = (dats m 0 c).arrAt 9 cfg0.N := by
  rw [Ref.res_eq, h0, h1, h2, h3, h4, h5, h6, h7]
  exact greatest_eq m c

end Cert.TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments and its counters as they were. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference end with the same result. -/
theorem same_result : Cert.algebraic_KernelIdeal_ReferenceIdeal (hKernelIdeal := Cert.KernelIdeal.Gen.facts)
    (hReferenceIdeal := Cert.ReferenceIdeal.Gen.facts) := by
  intro m ρ m' ρ' _ hagree
  refine ⟨fun c => (Cert.KernelIdeal.Gen.dats m 0 c).arrAt 9 Cert.KernelIdeal.cfg0.N, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7⟩ := hagree c
  exact Cert.TopK.result_eq m m' c h0 h1 h2 h3 h4 h5 h6 h7

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_result⟩

end Cert.Proof

end
